-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v46)) (v2 : (c : Dev Cert.KernelIdeal.nD) → Buf (Elt Ideal) ((c.tc : Thread Cert.KernelIdeal.nD Cert.KernelIdeal.τ).loc Cert.KernelIdeal.main_v47)) (v3 : (c : Dev Cert.KernelIdeal.nD) → Buf (Elt Ideal) ((c.tc : Thread Cert.KernelIdeal.nD Cert.KernelIdeal.τ).loc Cert.KernelIdeal.main_v48)) (v4 : (c : Dev Cert.KernelIdeal.nD) → Buf (Elt Ideal) ((c.tc : Thread Cert.KernelIdeal.nD Cert.KernelIdeal.τ).loc Cert.KernelIdeal.main_v49)) (v5 : (c : Dev Cert.KernelIdeal.nD) → Buf (Elt Ideal) ((c.tc : Thread Cert.KernelIdeal.nD Cert.KernelIdeal.τ).loc Cert.KernelIdeal.main_v50)) (v6 : (c : Dev Cert.KernelIdeal.nD) → Buf (Elt Ideal) ((c.tc : Thread Cert.KernelIdeal.nD Cert.KernelIdeal.τ).loc Cert.KernelIdeal.main_v51)) (v7 : (c : Dev Cert.KernelIdeal.nD) → Buf (Elt Ideal) ((c.tc : Thread Cert.KernelIdeal.nD Cert.KernelIdeal.τ).loc Cert.KernelIdeal.main_v52)) (v8 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_v48) = v3 c
          ∧ r.2.mem ((c.tc : Thread Cert.KernelIdeal.nD Cert.KernelIdeal.τ).loc Cert.KernelIdeal.main_v49) = v4 c
          ∧ r.2.mem ((c.tc : Thread Cert.KernelIdeal.nD Cert.KernelIdeal.τ).loc Cert.KernelIdeal.main_v50) = v5 c
          ∧ r.2.mem ((c.tc : Thread Cert.KernelIdeal.nD Cert.KernelIdeal.τ).loc Cert.KernelIdeal.main_v51) = v6 c
          ∧ r.2.mem ((c.tc : Thread Cert.KernelIdeal.nD Cert.KernelIdeal.τ).loc Cert.KernelIdeal.main_v52) = v7 c
          ∧ r.2.mem ((c.tc : Thread Cert.KernelIdeal.nD Cert.KernelIdeal.τ).loc Cert.KernelIdeal.main_v53) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26_0) = v0 c
          ∧ r.2.mem ((c.tc : Thread Cert.ReferenceIdeal.nD Cert.ReferenceIdeal.τ).loc Cert.ReferenceIdeal.main_v26_1) = v1 c
          ∧ r.2.mem ((c.tc : Thread Cert.ReferenceIdeal.nD Cert.ReferenceIdeal.τ).loc Cert.ReferenceIdeal.main_v26_2) = v2 c
          ∧ r.2.mem ((c.tc : Thread Cert.ReferenceIdeal.nD Cert.ReferenceIdeal.τ).loc Cert.ReferenceIdeal.main_v26_3) = v3 c
          ∧ r.2.mem ((c.tc : Thread Cert.ReferenceIdeal.nD Cert.ReferenceIdeal.τ).loc Cert.ReferenceIdeal.main_v26_4) = v4 c
          ∧ r.2.mem ((c.tc : Thread Cert.ReferenceIdeal.nD Cert.ReferenceIdeal.τ).loc Cert.ReferenceIdeal.main_v26_5) = v5 c
          ∧ r.2.mem ((c.tc : Thread Cert.ReferenceIdeal.nD Cert.ReferenceIdeal.τ).loc Cert.ReferenceIdeal.main_v26_6) = v6 c
          ∧ r.2.mem ((c.tc : Thread Cert.ReferenceIdeal.nD Cert.ReferenceIdeal.τ).loc Cert.ReferenceIdeal.main_v26_7) = v7 c
          ∧ r.2.mem ((c.tc : Thread Cert.ReferenceIdeal.nD Cert.ReferenceIdeal.τ).loc Cert.ReferenceIdeal.main_v26_8) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x384x7168 : Shape := ⟨3, ![2, 384, 7168]⟩
abbrev S2 : Shape := ⟨1, ![2]⟩
abbrev S7168 : Shape := ⟨1, ![7168]⟩
abbrev S7168x2048 : Shape := ⟨2, ![7168, 2048]⟩
abbrev S2048 : Shape := ⟨1, ![2048]⟩
abbrev S2048x7168 : Shape := ⟨2, ![2048, 7168]⟩
abbrev S7168x2304 : Shape := ⟨2, ![7168, 2304]⟩
abbrev S2304 : Shape := ⟨1, ![2304]⟩
abbrev S2304x7168 : Shape := ⟨2, ![2304, 7168]⟩
abbrev S2x1 : Shape := ⟨2, ![2, 1]⟩
abbrev S384 : Shape := ⟨1, ![384]⟩
abbrev S1x384 : Shape := ⟨2, ![1, 384]⟩
abbrev S2x384 : Shape := ⟨2, ![2, 384]⟩
abbrev S64 : Shape := ⟨1, ![64]⟩
abbrev S_ : Shape := ⟨0, ![]⟩
abbrev S768x1 : Shape := ⟨2, ![768, 1]⟩
abbrev S1x64 : Shape := ⟨2, ![1, 64]⟩
abbrev S768x64 : Shape := ⟨2, ![768, 64]⟩
abbrev S768x128 : Shape := ⟨2, ![768, 128]⟩
abbrev S768x7168 : Shape := ⟨2, ![768, 7168]⟩
abbrev S1x7168 : Shape := ⟨2, ![1, 7168]⟩
abbrev S128x7168 : Shape := ⟨2, ![128, 7168]⟩
abbrev S128x1 : Shape := ⟨2, ![128, 1]⟩
abbrev S128 : Shape := ⟨1, ![128]⟩
abbrev S1x2048 : Shape := ⟨2, ![1, 2048]⟩
abbrev S768x2048 : Shape := ⟨2, ![768, 2048]⟩
abbrev S7168x256 : Shape := ⟨2, ![7168, 256]⟩
abbrev S1x256 : Shape := ⟨2, ![1, 256]⟩
abbrev S768x256 : Shape := ⟨2, ![768, 256]⟩
abbrev S384x384 : Shape := ⟨2, ![384, 384]⟩
abbrev S384x128 : Shape := ⟨2, ![384, 128]⟩
abbrev S384x1 : Shape := ⟨2, ![384, 1]⟩
abbrev S128x2048 : Shape := ⟨2, ![128, 2048]⟩
abbrev S2048x512 : Shape := ⟨2, ![2048, 512]⟩
abbrev S1x512 : Shape := ⟨2, ![1, 512]⟩
abbrev S768x512 : Shape := ⟨2, ![768, 512]⟩
abbrev S1x2304 : Shape := ⟨2, ![1, 2304]⟩
abbrev S768x2304 : Shape := ⟨2, ![768, 2304]⟩
abbrev S128x2304 : Shape := ⟨2, ![128, 2304]⟩
abbrev S2304x512 : Shape := ⟨2, ![2304, 512]⟩
abbrev S2x384x1 : Shape := ⟨3, ![2, 384, 1]⟩
abbrev S2x384x2048 : Shape := ⟨3, ![2, 384, 2048]⟩
abbrev S2x384x2304 : Shape := ⟨3, ![2, 384, 2304]⟩

abbrev nBuf : Space → Nat
  | .hbm => 80
  | .vmem => 76
  | .smem => 0
  | _ => 0

abbrev bufTy : (tb : Table) → Fin (tcTables nBuf tb) → BufTy
  | .hbm, ⟨0, _⟩ => ⟨S2x384x7168, .bf16⟩
  | .hbm, ⟨1, _⟩ => ⟨S2, .i32⟩
  | .hbm, ⟨2, _⟩ => ⟨S7168, .bf16⟩
  | .hbm, ⟨3, _⟩ => ⟨S7168x2048, .fp8e4m3⟩
  | .hbm, ⟨4, _⟩ => ⟨S2048, .f32⟩
  | .hbm, ⟨5, _⟩ => ⟨S7168x2048, .fp8e4m3⟩
  | .hbm, ⟨6, _⟩ => ⟨S2048, .f32⟩
  | .hbm, ⟨7, _⟩ => ⟨S7168x2048, .fp8e4m3⟩
  | .hbm, ⟨8, _⟩ => ⟨S2048, .f32⟩
  | .hbm, ⟨9, _⟩ => ⟨S2048x7168, .fp8e4m3⟩
  | .hbm, ⟨10, _⟩ => ⟨S7168, .f32⟩
  | .hbm, ⟨11, _⟩ => ⟨S7168, .bf16⟩
  | .hbm, ⟨12, _⟩ => ⟨S7168x2304, .fp8e4m3⟩
  | .hbm, ⟨13, _⟩ => ⟨S2304, .f32⟩
  | .hbm, ⟨14, _⟩ => ⟨S7168x2304, .fp8e4m3⟩
  | .hbm, ⟨15, _⟩ => ⟨S2304, .f32⟩
  | .hbm, ⟨16, _⟩ => ⟨S2304x7168, .fp8e4m3⟩
  | .hbm, ⟨17, _⟩ => ⟨S7168, .f32⟩
  | .hbm, ⟨18, _⟩ => ⟨S2x1, .i32⟩
  | .hbm, ⟨19, _⟩ => ⟨S384, .i32⟩
  | .hbm, ⟨20, _⟩ => ⟨S1x384, .i32⟩
  | .hbm, ⟨21, _⟩ => ⟨S2x384, .i32⟩
  | .hbm, ⟨22, _⟩ => ⟨S2x384, .i32⟩
  | .hbm, ⟨23, _⟩ => ⟨S2x384, .i32⟩
  | .hbm, ⟨24, _⟩ => ⟨S2x384, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S768x1, .f32⟩
  | .hbm, ⟨40, _⟩ => ⟨S1x64, .f32⟩
  | .hbm, ⟨41, _⟩ => ⟨S768x64, .f32⟩
  | .hbm, ⟨42, _⟩ => ⟨S768x64, .f32⟩
  | .hbm, ⟨43, _⟩ => ⟨S768x64, .f32⟩
  | .hbm, ⟨44, _⟩ => ⟨S768x64, .f32⟩
  | .hbm, ⟨45, _⟩ => ⟨S768x64, .f32⟩
  | .hbm, ⟨46, _⟩ => ⟨S768x128, .f32⟩
  | .hbm, ⟨47, _⟩ => ⟨S768x64, .f32⟩
  | .hbm, ⟨48, _⟩ => ⟨S768x128, .f32⟩
  | .hbm, ⟨49, _⟩ => ⟨S768x7168, .bf16⟩
  | .hbm, ⟨50, _⟩ => ⟨S1x7168, .bf16⟩
  | .hbm, ⟨51, _⟩ => ⟨S768x7168, .fp8e4m3⟩
  | .hbm, ⟨52, _⟩ => ⟨S768x1, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S768x2048, .f32⟩
  | .hbm, ⟨57, _⟩ => ⟨S768x2048, .fp8e4m3⟩
  | .hbm, ⟨58, _⟩ => ⟨S768x1, .f32⟩
  | .hbm, ⟨59, _⟩ => ⟨S1x7168, .f32⟩
  | .hbm, ⟨60, _⟩ => ⟨S768x7168, .f32⟩
  | .hbm, ⟨61, _⟩ => ⟨S1x7168, .bf16⟩
  | .hbm, ⟨62, _⟩ => ⟨S768x7168, .fp8e4m3⟩
  | .hbm, ⟨63, _⟩ => ⟨S768x1, .f32⟩
  | .hbm, ⟨64, _⟩ => ⟨S1x2304, .f32⟩
  | .hbm, ⟨65, _⟩ => ⟨S1x2304, .f32⟩
  | .hbm, ⟨66, _⟩ => ⟨S768x2304, .f32⟩
  | .hbm, ⟨67, _⟩ => ⟨S768x2304, .fp8e4m3⟩
  | .hbm, ⟨68, _⟩ => ⟨S768x1, .f32⟩
  | .hbm, ⟨69, _⟩ => ⟨S1x7168, .f32⟩
  | .hbm, ⟨70, _⟩ => ⟨S768x7168, .bf16⟩
  | .hbm, ⟨71, _⟩ => ⟨S2x384x7168, .bf16⟩
  | .hbm, ⟨72, _⟩ => ⟨S2x384x7168, .fp8e4m3⟩
  | .hbm, ⟨73, _⟩ => ⟨S2x384x1, .f32⟩
  | .hbm, ⟨74, _⟩ => ⟨S2x384x2048, .fp8e4m3⟩
  | .hbm, ⟨75, _⟩ => ⟨S2x384x1, .f32⟩
  | .hbm, ⟨76, _⟩ => ⟨S2x384x7168, .fp8e4m3⟩
  | .hbm, ⟨77, _⟩ => ⟨S2x384x1, .f32⟩
  | .hbm, ⟨78, _⟩ => ⟨S2x384x2304, .fp8e4m3⟩
  | .hbm, ⟨79, _⟩ => ⟨S2x384x1, .f32⟩
  | .local _ .vmem, ⟨0, _⟩ => ⟨S128x7168, .bf16⟩
  | .local _ .vmem, ⟨1, _⟩ => ⟨S128x7168, .bf16⟩
  | .local _ .vmem, ⟨2, _⟩ => ⟨S1x7168, .bf16⟩
  | .local _ .vmem, ⟨3, _⟩ => ⟨S128x7168, .fp8e4m3⟩
  | .local _ .vmem, ⟨4, _⟩ => ⟨S128x7168, .fp8e4m3⟩
  | .local _ .vmem, ⟨5, _⟩ => ⟨S128x1, .f32⟩
  | .local _ .vmem, ⟨6, _⟩ => ⟨S128x1, .f32⟩
  | .local _ .vmem, ⟨7, _⟩ => ⟨S768x7168, .fp8e4m3⟩
  | .local _ .vmem, ⟨8, _⟩ => ⟨S768x1, .f32⟩
  | .local _ .vmem, ⟨9, _⟩ => ⟨S7168x256, .fp8e4m3⟩
  | .local _ .vmem, ⟨10, _⟩ => ⟨S7168x256, .fp8e4m3⟩
  | .local _ .vmem, ⟨11, _⟩ => ⟨S7168x256, .fp8e4m3⟩
  | .local _ .vmem, ⟨12, _⟩ => ⟨S7168x256, .fp8e4m3⟩
  | .local _ .vmem, ⟨13, _⟩ => ⟨S7168x256, .fp8e4m3⟩
  | .local _ .vmem, ⟨14, _⟩ => ⟨S7168x256, .fp8e4m3⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S768x128, .f32⟩
  | .local _ .vmem, ⟨22, _⟩ => ⟨S768x128, .f32⟩
  | .local _ .vmem, ⟨23, _⟩ => ⟨S768x256, .f32⟩
  | .local _ .vmem, ⟨24, _⟩ => ⟨S768x256, .f32⟩
  | .local _ .vmem, ⟨25, _⟩ => ⟨S128x2048, .f32⟩
  | .local _ .vmem, ⟨26, _⟩ => ⟨S128x2048, .f32⟩
  | .local _ .vmem, ⟨27, _⟩ => ⟨S128x2048, .fp8e4m3⟩
  | .local _ .vmem, ⟨28, _⟩ => ⟨S128x2048, .fp8e4m3⟩
  | .local _ .vmem, ⟨29, _⟩ => ⟨S128x1, .f32⟩
  | .local _ .vmem, ⟨30, _⟩ => ⟨S128x1, .f32⟩
  | .local _ .vmem, ⟨31, _⟩ => ⟨S768x2048, .fp8e4m3⟩
  | .local _ .vmem, ⟨32, _⟩ => ⟨S768x1, .f32⟩
  | .local _ .vmem, ⟨33, _⟩ => ⟨S2048x512, .fp8e4m3⟩
  | .local _ .vmem, ⟨34, _⟩ => ⟨S2048x512, .fp8e4m3⟩
  | .local _ .vmem, ⟨35, _⟩ => ⟨S1x512, .f32⟩
  | .local _ .vmem, ⟨36, _⟩ => ⟨S1x512, .f32⟩
  | .local _ .vmem, ⟨37, _⟩ => ⟨S768x512, .bf16⟩
  | .local _ .vmem, ⟨38, _⟩ => ⟨S768x512, .bf16⟩
  | .local _ .vmem, ⟨39, _⟩ => ⟨S768x512, .f32⟩
  | .local _ .vmem, ⟨40, _⟩ => ⟨S768x512, .f32⟩
  | .local _ .vmem, ⟨41, _⟩ => ⟨S128x7168, .f32⟩
  | .local _ .vmem, ⟨42, _⟩ => ⟨S128x7168, .f32⟩
  | .local _ .vmem, ⟨43, _⟩ => ⟨S1x7168, .bf16⟩
  | .local _ .vmem, ⟨44, _⟩ => ⟨S128x7168, .fp8e4m3⟩
  | .local _ .vmem, ⟨45, _⟩ => ⟨S128x7168, .fp8e4m3⟩
  | .local _ .vmem, ⟨46, _⟩ => ⟨S128x1, .f32⟩
  | .local _ .vmem, ⟨47, _⟩ => ⟨S128x1, .f32⟩
  | .local _ .vmem, ⟨48, _⟩ => ⟨S768x7168, .fp8e4m3⟩
  | .local _ .vmem, ⟨49, _⟩ => ⟨S768x1, .f32⟩
  | .local _ .vmem, ⟨50, _⟩ => ⟨S7168x256, .fp8e4m3⟩
  | .local _ .vmem, ⟨51, _⟩ => ⟨S7168x256, .fp8e4m3⟩
  | .local _ .vmem, ⟨52, _⟩ => ⟨S7168x256, .fp8e4m3⟩
  | .local _ .vmem, ⟨53, _⟩ => ⟨S7168x256, .fp8e4m3⟩
  | .local _ .vmem, ⟨54, _⟩ => ⟨S1x256, .f32⟩
  | .local _ .vmem, ⟨55, _⟩ => ⟨S1x256, .f32⟩
  | .local _ .vmem, ⟨56, _⟩ => ⟨S1x256, .f32⟩
  | .local _ .vmem, ⟨57, _⟩ => ⟨S1x256, .f32⟩
  | .local _ .vmem, ⟨58, _⟩ => ⟨S768x256, .f32⟩
  | .local _ .vmem, ⟨59, _⟩ => ⟨S768x256, .f32⟩
  | .local _ .vmem, ⟨60, _⟩ => ⟨S128x2304, .f32⟩
  | .local _ .vmem, ⟨61, _⟩ => ⟨S128x2304, .f32⟩
  | .local _ .vmem, ⟨62, _⟩ => ⟨S128x2304, .fp8e4m3⟩
  | .local _ .vmem, ⟨63, _⟩ => ⟨S128x2304, .fp8e4m3⟩
  | .local _ .vmem, ⟨64, _⟩ => ⟨S128x1, .f32⟩
  | .local _ .vmem, ⟨65, _⟩ => ⟨S128x1, .f32⟩
  | .local _ .vmem, ⟨66, _⟩ => ⟨S768x2304, .fp8e4m3⟩
  | .local _ .vmem, ⟨67, _⟩ => ⟨S768x1, .f32⟩
  | .local _ .vmem, ⟨68, _⟩ => ⟨S2304x512, .fp8e4m3⟩
  | .local _ .vmem, ⟨69, _⟩ => ⟨S2304x512, .fp8e4m3⟩
  | .local _ .vmem, ⟨70, _⟩ => ⟨S1x512, .f32⟩
  | .local _ .vmem, ⟨71, _⟩ => ⟨S1x512, .f32⟩
  | .local _ .vmem, ⟨72, _⟩ => ⟨S768x512, .f32⟩
  | .local _ .vmem, ⟨73, _⟩ => ⟨S768x512, .f32⟩
  | .local _ .vmem, ⟨74, _⟩ => ⟨S768x512, .bf16⟩
  | .local _ .vmem, ⟨75, _⟩ => ⟨S768x512, .bf16⟩
  | _, _ => ⟨S2x384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29_0 : Ref sig .tc := ⟨.hbm, 51, rfl⟩
abbrev main_v29_1 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34_0 : Ref sig .tc := ⟨.hbm, 57, rfl⟩
abbrev main_v34_1 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38_0 : Ref sig .tc := ⟨.hbm, 62, rfl⟩
abbrev main_v38_1 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42_0 : Ref sig .tc := ⟨.hbm, 67, rfl⟩
abbrev main_v42_1 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg10_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc3_stg0_0 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc3_stg5_0 : Ref sig .tc := ⟨.vmem, 39, rfl⟩
abbrev cc3_stg5_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc5_stg0_0 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg3_1 : Ref sig .tc := ⟨.vmem, 53, rfl⟩
abbrev cc5_stg4_0 : Ref sig .tc := ⟨.vmem, 54, rfl⟩
abbrev cc5_stg4_1 : Ref sig .tc := ⟨.vmem, 55, rfl⟩
abbrev cc5_stg5_0 : Ref sig .tc := ⟨.vmem, 56, rfl⟩
abbrev cc5_stg5_1 : Ref sig .tc := ⟨.vmem, 57, rfl⟩
abbrev cc5_stg6_0 : Ref sig .tc := ⟨.vmem, 58, rfl⟩
abbrev cc5_stg6_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc7_stg0_0 : Ref sig .tc := ⟨.vmem, 66, rfl⟩
abbrev cc7_stg1_0 : Ref sig .tc := ⟨.vmem, 67, rfl⟩
abbrev cc7_stg2_0 : Ref sig .tc := ⟨.vmem, 68, rfl⟩
abbrev cc7_stg2_1 : Ref sig .tc := ⟨.vmem, 69, rfl⟩
abbrev cc7_stg3_0 : Ref sig .tc := ⟨.vmem, 70, rfl⟩
abbrev cc7_stg3_1 : Ref sig .tc := ⟨.vmem, 71, rfl⟩
abbrev cc7_stg4_0 : Ref sig .tc := ⟨.vmem, 72, rfl⟩
abbrev cc7_stg4_1 : Ref sig .tc := ⟨.vmem, 73, rfl⟩
abbrev cc7_stg5_0 : Ref sig .tc := ⟨.vmem, 74, rfl⟩
abbrev cc7_stg5_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem9_0 : DmaSem sig := 22
abbrev cc1_sem10_0 : DmaSem sig := 23
abbrev cc1_sem10_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc3_sem0_0 : DmaSem sig := 31
abbrev cc3_sem1_0 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38
abbrev cc3_sem5_0 : DmaSem sig := 39
abbrev cc3_sem5_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem2_1 : DmaSem sig := 45
abbrev cc4_sem3_0 : DmaSem sig := 46
abbrev cc4_sem3_1 : DmaSem sig := 47
abbrev cc5_sem0_0 : DmaSem sig := 48
abbrev cc5_sem1_0 : DmaSem sig := 49
abbrev cc5_sem2_0 : DmaSem sig := 50
abbrev cc5_sem2_1 : DmaSem sig := 51
abbrev cc5_sem3_0 : DmaSem sig := 52
abbrev cc5_sem3_1 : DmaSem sig := 53
abbrev cc5_sem4_0 : DmaSem sig := 54
abbrev cc5_sem4_1 : DmaSem sig := 55
abbrev cc5_sem5_0 : DmaSem sig := 56
abbrev cc5_sem5_1 : DmaSem sig := 57
abbrev cc5_sem6_0 : DmaSem sig := 58
abbrev cc5_sem6_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc7_sem0_0 : DmaSem sig := 66
abbrev cc7_sem1_0 : DmaSem sig := 67
abbrev cc7_sem2_0 : DmaSem sig := 68
abbrev cc7_sem2_1 : DmaSem sig := 69
abbrev cc7_sem3_0 : DmaSem sig := 70
abbrev cc7_sem3_1 : DmaSem sig := 71
abbrev cc7_sem4_0 : DmaSem sig := 72
abbrev cc7_sem4_1 : DmaSem sig := 73
abbrev cc7_sem5_0 : DmaSem sig := 74
abbrev cc7_sem5_1 : DmaSem sig := 75

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S768x7168 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S768x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S7168x256 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S7168x256 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S7168x256 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S768x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S768x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S768x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x2048 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![14], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S768x2048 .fp8e4m3 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S768x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x512 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S768x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S768x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![6], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x7168 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x7168 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S128x7168 .fp8e4m3 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S128x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![9], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S768x7168 .fp8e4m3 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S768x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S7168x256 .fp8e4m3 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S7168x256 .fp8e4m3 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S768x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![6], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S128x2304 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S128x2304 .fp8e4m3 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S128x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![14], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 1 → Memref sig .tc .vmem S768x2304 .fp8e4m3 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S768x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2304x512 .fp8e4m3 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S768x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S768x512 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]
-- ==== ReferenceIdeal.lean ====
abbrev S2x384x7168 : Shape := ⟨3, ![2, 384, 7168]⟩
abbrev S2 : Shape := ⟨1, ![2]⟩
abbrev S7168 : Shape := ⟨1, ![7168]⟩
abbrev S7168x2048 : Shape := ⟨2, ![7168, 2048]⟩
abbrev S2048 : Shape := ⟨1, ![2048]⟩
abbrev S2048x7168 : Shape := ⟨2, ![2048, 7168]⟩
abbrev S7168x2304 : Shape := ⟨2, ![7168, 2304]⟩
abbrev S2304 : Shape := ⟨1, ![2304]⟩
abbrev S2304x7168 : Shape := ⟨2, ![2304, 7168]⟩
abbrev S64 : Shape := ⟨1, ![64]⟩
abbrev S_ : Shape := ⟨0, ![]⟩
abbrev S2x1 : Shape := ⟨2, ![2, 1]⟩
abbrev S384 : Shape := ⟨1, ![384]⟩
abbrev S1x384 : Shape := ⟨2, ![1, 384]⟩
abbrev S2x384 : Shape := ⟨2, ![2, 384]⟩
abbrev S2x384x1 : Shape := ⟨3, ![2, 384, 1]⟩
abbrev S1x1x64 : Shape := ⟨3, ![1, 1, 64]⟩
abbrev S2x384x64 : Shape := ⟨3, ![2, 384, 64]⟩
abbrev S2x384x128 : Shape := ⟨3, ![2, 384, 128]⟩
abbrev S2x384x1x128 : Shape := ⟨4, ![2, 384, 1, 128]⟩
abbrev S2x384x2048 : Shape := ⟨3, ![2, 384, 2048]⟩
abbrev S2x384x2304 : Shape := ⟨3, ![2, 384, 2304]⟩
abbrev S1x1x7168 : Shape := ⟨3, ![1, 1, 7168]⟩
abbrev S2x384x253 : Shape := ⟨3, ![2, 384, 253]⟩
abbrev S1x1x2048 : Shape := ⟨3, ![1, 1, 2048]⟩
abbrev S2x384x16x128 : Shape := ⟨4, ![2, 384, 16, 128]⟩
abbrev S2x384x16x64 : Shape := ⟨4, ![2, 384, 16, 64]⟩
abbrev S2x16x384x384 : Shape := ⟨4, ![2, 16, 384, 384]⟩
abbrev S2x16x384 : Shape := ⟨3, ![2, 16, 384]⟩
abbrev S2x16x384x1 : Shape := ⟨4, ![2, 16, 384, 1]⟩
abbrev S2x16x128x384 : Shape := ⟨4, ![2, 16, 128, 384]⟩
abbrev S1x1x2304 : Shape := ⟨3, ![1, 1, 2304]⟩

abbrev nBuf : Space → Nat
  | .hbm => 57
  | .vmem => 28
  | .smem => 0
  | _ => 0

abbrev bufTy : (tb : Table) → Fin (tcTables nBuf tb) → BufTy
  | .hbm, ⟨0, _⟩ => ⟨S2x384x7168, .bf16⟩
  | .hbm, ⟨1, _⟩ => ⟨S2, .i32⟩
  | .hbm, ⟨2, _⟩ => ⟨S7168, .bf16⟩
  | .hbm, ⟨3, _⟩ => ⟨S7168x2048, .fp8e4m3⟩
  | .hbm, ⟨4, _⟩ => ⟨S2048, .f32⟩
  | .hbm, ⟨5, _⟩ => ⟨S7168x2048, .fp8e4m3⟩
  | .hbm, ⟨6, _⟩ => ⟨S2048, .f32⟩
  | .hbm, ⟨7, _⟩ => ⟨S7168x2048, .fp8e4m3⟩
  | .hbm, ⟨8, _⟩ => ⟨S2048, .f32⟩
  | .hbm, ⟨9, _⟩ => ⟨S2048x7168, .fp8e4m3⟩
  | .hbm, ⟨10, _⟩ => ⟨S7168, .f32⟩
  | .hbm, ⟨11, _⟩ => ⟨S7168, .bf16⟩
  | .hbm, ⟨12, _⟩ => ⟨S7168x2304, .fp8e4m3⟩
  | .hbm, ⟨13, _⟩ => ⟨S2304, .f32⟩
  | .hbm, ⟨14, _⟩ => ⟨S7168x2304, .fp8e4m3⟩
  | .hbm, ⟨15, _⟩ => ⟨S2304, .f32⟩
  | .hbm, ⟨16, _⟩ => ⟨S2304x7168, .fp8e4m3⟩
  | .hbm, ⟨17, _⟩ => ⟨S7168, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S2x1, .i32⟩
  | .hbm, ⟨33, _⟩ => ⟨S384, .i32⟩
  | .hbm, ⟨34, _⟩ => ⟨S1x384, .i32⟩
  | .hbm, ⟨35, _⟩ => ⟨S2x384, .i32⟩
  | .hbm, ⟨36, _⟩ => ⟨S2x384, .i32⟩
  | .hbm, ⟨37, _⟩ => ⟨S2x384, .i32⟩
  | .hbm, ⟨38, _⟩ => ⟨S2x384, .f32⟩
  | .hbm, ⟨39, _⟩ => ⟨S2x384x1, .f32⟩
  | .hbm, ⟨40, _⟩ => ⟨S1x1x64, .f32⟩
  | .hbm, ⟨41, _⟩ => ⟨S2x384x64, .f32⟩
  | .hbm, ⟨42, _⟩ => ⟨S2x384x64, .f32⟩
  | .hbm, ⟨43, _⟩ => ⟨S2x384x64, .f32⟩
  | .hbm, ⟨44, _⟩ => ⟨S2x384x128, .f32⟩
  | .hbm, ⟨45, _⟩ => ⟨S2x384x1x128, .f32⟩
  | .hbm, ⟨46, _⟩ => ⟨S2x384x1x128, .f32⟩
  | .hbm, ⟨47, _⟩ => ⟨S2x384x1x128, .f32⟩
  | .hbm, ⟨48, _⟩ => ⟨S2x384x7168, .bf16⟩
  | .hbm, ⟨49, _⟩ => ⟨S2x384x7168, .fp8e4m3⟩
  | .hbm, ⟨50, _⟩ => ⟨S2x384x1, .f32⟩
  | .hbm, ⟨51, _⟩ => ⟨S2x384x2048, .fp8e4m3⟩
  | .hbm, ⟨52, _⟩ => ⟨S2x384x1, .f32⟩
  | .hbm, ⟨53, _⟩ => ⟨S2x384x7168, .fp8e4m3⟩
  | .hbm, ⟨54, _⟩ => ⟨S2x384x1, .f32⟩
  | .hbm, ⟨55, _⟩ => ⟨S2x384x2304, .fp8e4m3⟩
  | .hbm, ⟨56, _⟩ => ⟨S2x384x1, .f32⟩
  | .local _ .vmem, ⟨0, _⟩ => ⟨S2x384x7168, .bf16⟩
  | .local _ .vmem, ⟨1, _⟩ => ⟨S2x384x1x128, .f32⟩
  | .local _ .vmem, ⟨2, _⟩ => ⟨S2x384x1x128, .f32⟩
  | .local _ .vmem, ⟨3, _⟩ => ⟨S7168, .bf16⟩
  | .local _ .vmem, ⟨4, _⟩ => ⟨S7168x2048, .fp8e4m3⟩
  | .local _ .vmem, ⟨5, _⟩ => ⟨S2048, .f32⟩
  | .local _ .vmem, ⟨6, _⟩ => ⟨S7168x2048, .fp8e4m3⟩
  | .local _ .vmem, ⟨7, _⟩ => ⟨S2048, .f32⟩
  | .local _ .vmem, ⟨8, _⟩ => ⟨S7168x2048, .fp8e4m3⟩
  | .local _ .vmem, ⟨9, _⟩ => ⟨S2048, .f32⟩
  | .local _ .vmem, ⟨10, _⟩ => ⟨S2048x7168, .fp8e4m3⟩
  | .local _ .vmem, ⟨11, _⟩ => ⟨S7168, .f32⟩
  | .local _ .vmem, ⟨12, _⟩ => ⟨S7168, .bf16⟩
  | .local _ .vmem, ⟨13, _⟩ => ⟨S7168x2304, .fp8e4m3⟩
  | .local _ .vmem, ⟨14, _⟩ => ⟨S2304, .f32⟩
  | .local _ .vmem, ⟨15, _⟩ => ⟨S7168x2304, .fp8e4m3⟩
  | .local _ .vmem, ⟨16, _⟩ => ⟨S2304, .f32⟩
  | .local _ .vmem, ⟨17, _⟩ => ⟨S2304x7168, .fp8e4m3⟩
  | .local _ .vmem, ⟨18, _⟩ => ⟨S7168, .f32⟩
  | .local _ .vmem, ⟨19, _⟩ => ⟨S2x384x7168, .bf16⟩
  | .local _ .vmem, ⟨20, _⟩ => ⟨S2x384x7168, .fp8e4m3⟩
  | .local _ .vmem, ⟨21, _⟩ => ⟨S2x384x1, .f32⟩
  | .local _ .vmem, ⟨22, _⟩ => ⟨S2x384x2048, .fp8e4m3⟩
  | .local _ .vmem, ⟨23, _⟩ => ⟨S2x384x1, .f32⟩
  | .local _ .vmem, ⟨24, _⟩ => ⟨S2x384x7168, .fp8e4m3⟩
  | .local _ .vmem, ⟨25, _⟩ => ⟨S2x384x1, .f32⟩
  | .local _ .vmem, ⟨26, _⟩ => ⟨S2x384x2304, .fp8e4m3⟩
  | .local _ .vmem, ⟨27, _⟩ => ⟨S2x384x1, .f32⟩
  | _, _ => ⟨S2x384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_2 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_v26_2 : Ref sig .tc := ⟨.hbm, 50, rfl⟩
abbrev main_v26_3 : Ref sig .tc := ⟨.hbm, 51, rfl⟩
abbrev main_v26_4 : Ref sig .tc := ⟨.hbm, 52, rfl⟩
abbrev main_v26_5 : Ref sig .tc := ⟨.hbm, 53, rfl⟩
abbrev main_v26_6 : Ref sig .tc := ⟨.hbm, 54, rfl⟩
abbrev main_v26_7 : Ref sig .tc := ⟨.hbm, 55, rfl⟩
abbrev main_v26_8 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x384x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7168x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x7168 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7168 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S7168 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S7168x2304 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2304 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S7168x2304 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2304 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2304x7168 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S7168 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x384x7168 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x384x7168 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x384x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x384x2048 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x384x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x384x7168 .fp8e4m3 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x384x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x384x2304 .fp8e4m3 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x384x1 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Proof.Ref.Frame.lean ====
/- The reference's run. It is one call without a grid, on whole arrays, after the host lines that make the rope tables.
   This module follows the text of the frame certificate that is generated for the program, with two changes: the
   steps that compare 28 windows at once have more heartbeats (the generated text stops there at the default), and
   the generated text's macros and checks are left out. -/
module

public import proofs.«01_k».proof.Proof.Gen.ReferenceIdeal.Launch
public import proofs.«01_k».proof.Proof.Gen.ReferenceIdeal.Skeleton
public import proofs.«01_k».proof.Proof.Gen.ReferenceIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1680000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ReferenceIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      ((h c).1 5).trans (((dats 0 c).arrAt_in 5 rfl _).trans ((hA c 5).trans (V_main_arg4 m c))),
      ((h c).1 6).trans (((dats 0 c).arrAt_in 6 rfl _).trans ((hA c 6).trans (V_main_arg5 m c))),
      ((h c).1 7).trans (((dats 0 c).arrAt_in 7 rfl _).trans ((hA c 7).trans (V_main_arg6 m c))),
      ((h c).1 8).trans (((dats 0 c).arrAt_in 8 rfl _).trans ((hA c 8).trans (V_main_arg7 m c))),
      ((h c).1 9).trans (((dats 0 c).arrAt_in 9 rfl _).trans ((hA c 9).trans (V_main_arg8 m c))),
      ((h c).1 10).trans (((dats 0 c).arrAt_in 10 rfl _).trans ((hA c 10).trans (V_main_arg9 m c))),
      ((h c).1 11).trans (((dats 0 c).arrAt_in 11 rfl _).trans ((hA c 11).trans (V_main_arg10 m c))),
      ((h c).1 12).trans (((dats 0 c).arrAt_in 12 rfl _).trans ((hA c 12).trans (V_main_arg11 m c))),
      ((h c).1 13).trans (((dats 0 c).arrAt_in 13 rfl _).trans ((hA c 13).trans (V_main_arg12 m c))),
      ((h c).1 14).trans (((dats 0 c).arrAt_in 14 rfl _).trans ((hA c 14).trans (V_main_arg13 m c))),
      ((h c).1 15).trans (((dats 0 c).arrAt_in 15 rfl _).trans ((hA c 15).trans (V_main_arg14 m c))),
      ((h c).1 16).trans (((dats 0 c).arrAt_in 16 rfl _).trans ((hA c 16).trans (V_main_arg15 m c))),
      ((h c).1 17).trans (((dats 0 c).arrAt_in 17 rfl _).trans ((hA c 17).trans (V_main_arg16 m c))),
      ((h c).1 18).trans (((dats 0 c).arrAt_in 18 rfl _).trans ((hA c 18).trans (V_main_arg17 m c)))⟩) h

/-! ## The body's accesses -/

abbrev r0_0 : Rect S2x384x7168 := Rect.unit (s := S2x384x7168) ![0, 0, 0] S2x384x7168.size inb_S2x384x7168_S2x384x7168_0_0_0
abbrev r0_1 : Rect S2x384x1x128 := Rect.unit (s := S2x384x1x128) ![0, 0, 0, 0] S2x384x1x128.size inb_S2x384x1x128_S2x384x1x128_0_0_0_0
abbrev r0_2 : Rect S7168 := Rect.unit (s := S7168) ![0] S7168.size inb_S7168_S7168_0
abbrev r0_3 : Rect S7168x2048 := Rect.unit (s := S7168x2048) ![0, 0] S7168x2048.size inb_S7168x2048_S7168x2048_0_0
abbrev r0_4 : Rect S2048 := Rect.unit (s := S2048) ![0] S2048.size inb_S2048_S2048_0
abbrev r0_5 : Rect S2048x7168 := Rect.unit (s := S2048x7168) ![0, 0] S2048x7168.size inb_S2048x7168_S2048x7168_0_0
abbrev r0_6 : Rect S7168x2304 := Rect.unit (s := S7168x2304) ![0, 0] S7168x2304.size inb_S7168x2304_S7168x2304_0_0
abbrev r0_7 : Rect S2304 := Rect.unit (s := S2304) ![0] S2304.size inb_S2304_S2304_0
abbrev r0_8 : Rect S2304x7168 := Rect.unit (s := S2304x7168) ![0, 0] S2304x7168.size inb_S2304x7168_S2304x7168_0_0
abbrev r0_9 : Rect S2x384x1 := Rect.unit (s := S2x384x1) ![0, 0, 0] S2x384x1.size inb_S2x384x1_S2x384x1_0_0_0
abbrev r0_10 : Rect S2x384x2048 := Rect.unit (s := S2x384x2048) ![0, 0, 0] S2x384x2048.size inb_S2x384x2048_S2x384x2048_0_0_0
abbrev r0_11 : Rect S2x384x2304 := Rect.unit (s := S2x384x2304) ![0, 0, 0] S2x384x2304.size inb_S2x384x2304_S2x384x2304_0_0_0

/-! ## What the body leaves in each output window's buffer -/

/-! ### Values of the body that the stores' payloads, spelt out, would write more than once

    Each is a vector the body binds (often a part call's result), stated over the input windows' blocks and
    numbered on from the skeleton's payload functions (`k0_pay35` …, after `k0_pay34`), so that
    `out0_W` and the values after it name it instead of spelling it out ; the comment after each is the printed function's
    name for the value (a count appended where that name is bound again). -/

def k0_pay35 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x7168 .f32 :=
  k0_pay1 (View.ld x0 r0_0) -- `v1`
def k0_pay36 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x7168 .f32 :=
  k0_pay4 (View.ld x0 r0_0) (View.ld x3 r0_2) -- `v20`
def k0_pay37 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x1 .f32 :=
  k0_pay5 (View.ld x0 r0_0) (View.ld x3 r0_2) -- `v25`
def k0_pay38 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x1 .f32 :=
  k0_pay6 (View.ld x0 r0_0) (View.ld x3 r0_2) -- `v36`
def k0_pay39 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : IVec S2x384x1 1 :=
  k0_pay7 (View.ld x0 r0_0) (View.ld x3 r0_2) -- `v38`
def k0_pay40 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x1 .f32 :=
  k0_pay8 (k0_pay37 x0 x1 x2 x3 x4 x5 x6 x7 x8 x9 x10 x11 x12 x13 x14 x15 x16 x17 x18) (k0_pay38 x0 x1 x2 x3 x4 x5 x6 x7 x8 x9 x10 x11 x12 x13 x14 x15 x16 x17 x18) (k0_pay39 x0 x1 x2 x3 x4 x5 x6 x7 x8 x9 x10 x11 x12 x13 x14 x15 x16 x17 x18) -- `v44`
def k0_pay41 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x7168 .fp8e4m3 :=
  k0_pay9 (k0_pay36 x0 x1 x2 x3 x4 x5 x6 x7 x8 x9 x10 x11 x12 x13 x14 x15 x16 x17 x18) (k0_pay37 x0 x1 x2 x3 x4 x5 x6 x7 x8 x9 x10 x11 x12 x13 x14 x15 x16 x17 x18) (k0_pay38 x0 x1 x2 x3 x4 x5 x6 x7 x8 x9 x10 x11 x12 x13 x14 x15 x16 x17 x18) -- `v69`
def k0_pay42 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x16x128 .bf16 :=
  k0_pay11 (k0_pay40 x0 x1 x2 x3 x4 x5 x6 x7 x8 x9 x10 x11 x12 x13 x14 x15 x16 x17 x18) (k0_pay41 x0 x1 x2 x3 x4 x5 x6 x7 x8 x9 x10 x11 x12 x13 x14 x15 x16 x17 x18) (View.ld x8 r0_3) (View.ld x9 r0_4) -- `v97`
def k0_pay43 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x16x384x384 .f32 :=
  k0_pay12 (k0_pay2 (View.ld x1 r0_1)) (k0_pay3 (View.ld x2 r0_1)) (k0_pay40 x0 x1 x2 x3 x4 x5 x6 x7 x8 x9 x10 x11 x12 x13 x14 x15 x16 x17 x18) (k0_pay41 x0 x1 x2 x3 x4 x5 x6 x7 x8 x9 x10 x11 x12 x13 x14 x15 x16 x17 x18) (k0_pay10 (k0_pay36 x0 x1 x2 x3 x4 x5 x6 x7 x8 x9 x10 x11 x12 x13 x14 x15 x16 x17 x18) (k0_pay37 x0 x1 x2 x3 x4 x5 x6 x7 x8 x9 x10 x11 x12 x13 x14 x15 x16 x17 x18) (k0_pay38 x0 x1 x2 x3 x4 x5 x6 x7 x8 x9 x10 x11 x12 x13 x14 x15 x16 x17 x18) (k0_pay39 x0 x1 x2 x3 x4 x5 x6 x7 x8 x9 x10 x11 x12 x13 x14 x15 x16 x17 x18) (View.ld x4 r0_3) (View.ld x5 r0_4)) (View.ld x6 r0_3) (View.ld x7 r0_4) -- `v127`
def k0_pay44 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x2048 .f32 :=
  k0_pay13 (k0_pay42 x0 x1 x2 x3 x4 x5 x6 x7 x8 x9 x10 x11 x12 x13 x14 x15 x16 x17 x18) (k0_pay43 x0 x1 x2 x3 x4 x5 x6 x7 x8 x9 x10 x11 x12 x13 x14 x15 x16 x17 x18) -- `v142`
def k0_pay45 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x1 .f32 :=
  k0_pay14 (k0_pay42 x0 x1 x2 x3 x4 x5 x6 x7 x8 x9 x10 x11 x12 x13 x14 x15 x16 x17 x18) (k0_pay43 x0 x1 x2 x3 x4 x5 x6 x7 x8 x9 x10 x11 x12 x13 x14 x15 x16 x17 x18) -- `v147`
def k0_pay46 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x1 .f32 :=
  k0_pay16 (k0_pay42 x0 x1 x2 x3 x4 x5 x6 x7 x8 x9 x10 x11 x12 x13 x14 x15 x16 x17 x18) (k0_pay43 x0 x1 x2 x3 x4 x5 x6 x7 x8 x9 x10 x11 x12 x13 x14 x15 x16 x17 x18) -- `v166`
def k0_pay47 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : IVec S2x384x1 1 :=
  k0_pay17 (k0_pay42 x0 x1 x2 x3 x4 x5 x6 x7 x8 x9 x10 x11 x12 x13 x14 x15 x16 x17 x18) (k0_pay43 x0 x1 x2 x3 x4 x5 x6 x7 x8 x9 x10 x11 x12 x13 x14 x15 x16 x17 x18) -- `v168`
def k0_pay48 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x1 .f32 :=
  k0_pay18 (k0_pay42 x0 x1 x2 x3 x4 x5 x6 x7 x8 x9 x10 x11 x12 x13 x14 x15 x16 x17 x18) (k0_pay43 x0 x1 x2 x3 x4 x5 x6 x7 x8 x9 x10 x11 x12 x13 x14 x15 x16 x17 x18) -- `v170`
def k0_pay49 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x1 .f32 :=
  k0_pay19 (F := F) -- `v171`
def k0_pay50 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x7168 .f32 :=
  k0_pay22 (k0_pay35 x0 x1 x2 x3 x4 x5 x6 x7 x8 x9 x10 x11 x12 x13 x14 x15 x16 x17 x18) (k0_pay44 x0 x1 x2 x3 x4 x5 x6 x7 x8 x9 x10 x11 x12 x13 x14 x15 x16 x17 x18) (k0_pay45 x0 x1 x2 x3 x4 x5 x6 x7 x8 x9 x10 x11 x12 x13 x14 x15 x16 x17 x18) (k0_pay46 x0 x1 x2 x3 x4 x5 x6 x7 x8 x9 x10 x11 x12 x13 x14 x15 x16 x17 x18) (k0_pay47 x0 x1 x2 x3 x4 x5 x6 x7 x8 x9 x10 x11 x12 x13 x14 x15 x16 x17 x18) (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18) (View.ld x10 r0_5) (View.ld x11 r0_2) (View.ld x12 r0_2) -- `v215`
def k0_pay51 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x1 .f32 :=
  k0_pay25 (k0_pay50 x0 x1 x2 x3 x4 x5 x6 x7 x8 x9 x10 x11 x12 x13 x14 x15 x16 x17 x18) -- `v239`
def k0_pay52 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x1 .f32 :=
  k0_pay26 (k0_pay50 x0 x1 x2 x3 x4 x5 x6 x7 x8 x9 x10 x11 x12 x13 x14 x15 x16 x17 x18) -- `v257`
def k0_pay53 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x2304 .f32 :=
  k0_pay28 (k0_pay50 x0 x1 x2 x3 x4 x5 x6 x7 x8 x9 x10 x11 x12 x13 x14 x15 x16 x17 x18) (k0_pay51 x0 x1 x2 x3 x4 x5 x6 x7 x8 x9 x10 x11 x12 x13 x14 x15 x16 x17 x18) (k0_pay52 x0 x1 x2 x3 x4 x5 x6 x7 x8 x9 x10 x11 x12 x13 x14 x15 x16 x17 x18) (View.ld x13 r0_6) (View.ld x14 r0_7) (View.ld x15 r0_6) (View.ld x16 r0_7) -- `v283`
def k0_pay54 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x1 .f32 :=
  k0_pay29 (k0_pay50 x0 x1 x2 x3 x4 x5 x6 x7 x8 x9 x10 x11 x12 x13 x14 x15 x16 x17 x18) (k0_pay51 x0 x1 x2 x3 x4 x5 x6 x7 x8 x9 x10 x11 x12 x13 x14 x15 x16 x17 x18) (k0_pay52 x0 x1 x2 x3 x4 x5 x6 x7 x8 x9 x10 x11 x12 x13 x14 x15 x16 x17 x18) (View.ld x13 r0_6) (View.ld x14 r0_7) (View.ld x15 r0_6) (View.ld x16 r0_7) -- `v288`
def k0_pay55 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : FVec F S2x384x1 .f32 :=
  k0_pay30 (k0_pay50 x0 x1 x2 x3 x4 x5 x6 x7 x8 x9 x10 x11 x12 x13 x14 x15 x16 x17 x18) (k0_pay51 x0 x1 x2 x3 x4 x5 x6 x7 x8 x9 x10 x11 x12 x13 x14 x15 x16 x17 x18) (k0_pay52 x0 x1 x2 x3 x4 x5 x6 x7 x8 x9 x10 x11 x12 x13 x14 x15 x16 x17 x18) (View.ld x13 r0_6) (View.ld x14 r0_7) (View.ld x15 r0_6) (View.ld x16 r0_7) -- `v299`
def k0_pay56 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : IVec S2x384x1 1 :=
  k0_pay31 (k0_pay50 x0 x1 x2 x3 x4 x5 x6 x7 x8 x9 x10 x11 x12 x13 x14 x15 x16 x17 x18) (k0_pay51 x0 x1 x2 x3 x4 x5 x6 x7 x8 x9 x10 x11 x12 x13 x14 x15 x16 x17 x18) (k0_pay52 x0 x1 x2 x3 x4 x5 x6 x7 x8 x9 x10 x11 x12 x13 x14 x15 x16 x17 x18) (View.ld x13 r0_6) (View.ld x14 r0_7) (View.ld x15 r0_6) (View.ld x16 r0_7) -- `v301`

/-- Window 19's staging buffer after the body, from the input windows' blocks: its 1 store as pieces, LAST
    FIRST (Lib/Pipeline/FrameBody.lean `View.canon`; the payloads are the skeleton's and the values stated above). -/
def out0_19 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : Vec F S2x384x7168 .bf16 :=
  View.canon [⟨r0_0, k0_pay34 (k0_pay21 (k0_pay35 x0 x1 x2 x3 x4 x5 x6 x7 x8 x9 x10 x11 x12 x13 x14 x15 x16 x17 x18) (k0_pay44 x0 x1 x2 x3 x4 x5 x6 x7 x8 x9 x10 x11 x12 x13 x14 x15 x16 x17 x18) (k0_pay45 x0 x1 x2 x3 x4 x5 x6 x7 x8 x9 x10 x11 x12 x13 x14 x15 x16 x17 x18) (k0_pay46 x0 x1 x2 x3 x4 x5 x6 x7 x8 x9 x10 x11 x12 x13 x14 x15 x16 x17 x18) (k0_pay47 x0 x1 x2 x3 x4 x5 x6 x7 x8 x9 x10 x11 x12 x13 x14 x15 x16 x17 x18) (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18) (View.ld x10 r0_5) (View.ld x11 r0_2)) (k0_pay53 x0 x1 x2 x3 x4 x5 x6 x7 x8 x9 x10 x11 x12 x13 x14 x15 x16 x17 x18) (k0_pay54 x0 x1 x2 x3 x4 x5 x6 x7 x8 x9 x10 x11 x12 x13 x14 x15 x16 x17 x18) (k0_pay55 x0 x1 x2 x3 x4 x5 x6 x7 x8 x9 x10 x11 x12 x13 x14 x15 x16 x17 x18) (k0_pay56 x0 x1 x2 x3 x4 x5 x6 x7 x8 x9 x10 x11 x12 x13 x14 x15 x16 x17 x18) (View.ld x17 r0_8) (View.ld x18 r0_2)⟩]

/-- Its stores tile the buffer (checked by evaluation), so they cover it. -/
theorem cover0_19 (p0 : Vec F S2x384x7168 .bf16) (y : S2x384x7168.Idx) :
    ∃ pc ∈ ([⟨r0_0, p0⟩] : List (View.Piece (Elt F) S2x384x7168 .bf16)), y ∈ pc.1.set :=
  View.cover_of_tiled [⟨r0_0, p0⟩] S2x384x7168.size (by rfl) y

/-- Window 20's staging buffer after the body, from the input windows' blocks: its 1 store as pieces, LAST
    FIRST (Lib/Pipeline/FrameBody.lean `View.canon`; the payloads are the skeleton's and the values stated above). -/
def out0_20 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : Vec F S2x384x7168 .fp8e4m3 :=
  View.canon [⟨r0_0, k0_pay41 x0 x1 x2 x3 x4 x5 x6 x7 x8 x9 x10 x11 x12 x13 x14 x15 x16 x17 x18⟩]

/-- Its stores tile the buffer (checked by evaluation), so they cover it. -/
theorem cover0_20 (p0 : Vec F S2x384x7168 .fp8e4m3) (y : S2x384x7168.Idx) :
    ∃ pc ∈ ([⟨r0_0, p0⟩] : List (View.Piece (Elt F) S2x384x7168 .fp8e4m3)), y ∈ pc.1.set :=
  View.cover_of_tiled [⟨r0_0, p0⟩] S2x384x7168.size (by rfl) y

/-- Window 21's staging buffer after the body, from the input windows' blocks: its 1 store as pieces, LAST
    FIRST (Lib/Pipeline/FrameBody.lean `View.canon`; the payloads are the skeleton's and the values stated above). -/
def out0_21 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : Vec F S2x384x1 .f32 :=
  View.canon [⟨r0_9, k0_pay40 x0 x1 x2 x3 x4 x5 x6 x7 x8 x9 x10 x11 x12 x13 x14 x15 x16 x17 x18⟩]

/-- Its stores tile the buffer (checked by evaluation), so they cover it. -/
theorem cover0_21 (p0 : Vec F S2x384x1 .f32) (y : S2x384x1.Idx) :
    ∃ pc ∈ ([⟨r0_9, p0⟩] : List (View.Piece (Elt F) S2x384x1 .f32)), y ∈ pc.1.set :=
  View.cover_of_tiled [⟨r0_9, p0⟩] S2x384x1.size (by rfl) y

/-- Window 22's staging buffer after the body, from the input windows' blocks: its 1 store as pieces, LAST
    FIRST (Lib/Pipeline/FrameBody.lean `View.canon`; the payloads are the skeleton's and the values stated above). -/
def out0_22 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : Vec F S2x384x2048 .fp8e4m3 :=
  View.canon [⟨r0_10, k0_pay20 (k0_pay44 x0 x1 x2 x3 x4 x5 x6 x7 x8 x9 x10 x11 x12 x13 x14 x15 x16 x17 x18) (k0_pay45 x0 x1 x2 x3 x4 x5 x6 x7 x8 x9 x10 x11 x12 x13 x14 x15 x16 x17 x18) (k0_pay47 x0 x1 x2 x3 x4 x5 x6 x7 x8 x9 x10 x11 x12 x13 x14 x15 x16 x17 x18) (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18)⟩]

/-- Its stores tile the buffer (checked by evaluation), so they cover it. -/
theorem cover0_22 (p0 : Vec F S2x384x2048 .fp8e4m3) (y : S2x384x2048.Idx) :
    ∃ pc ∈ ([⟨r0_10, p0⟩] : List (View.Piece (Elt F) S2x384x2048 .fp8e4m3)), y ∈ pc.1.set :=
  View.cover_of_tiled [⟨r0_10, p0⟩] S2x384x2048.size (by rfl) y

/-- Window 23's staging buffer after the body, from the input windows' blocks: its 1 store as pieces, LAST
    FIRST (Lib/Pipeline/FrameBody.lean `View.canon`; the payloads are the skeleton's and the values stated above). -/
def out0_23 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : Vec F S2x384x1 .f32 :=
  View.canon [⟨r0_9, k0_pay46 x0 x1 x2 x3 x4 x5 x6 x7 x8 x9 x10 x11 x12 x13 x14 x15 x16 x17 x18⟩]

/-- Its stores tile the buffer (checked by evaluation), so they cover it. -/
theorem cover0_23 (p0 : Vec F S2x384x1 .f32) (y : S2x384x1.Idx) :
    ∃ pc ∈ ([⟨r0_9, p0⟩] : List (View.Piece (Elt F) S2x384x1 .f32)), y ∈ pc.1.set :=
  View.cover_of_tiled [⟨r0_9, p0⟩] S2x384x1.size (by rfl) y

/-- Window 24's staging buffer after the body, from the input windows' blocks: its 1 store as pieces, LAST
    FIRST (Lib/Pipeline/FrameBody.lean `View.canon`; the payloads are the skeleton's and the values stated above). -/
def out0_24 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : Vec F S2x384x7168 .fp8e4m3 :=
  View.canon [⟨r0_0, k0_pay27 (k0_pay50 x0 x1 x2 x3 x4 x5 x6 x7 x8 x9 x10 x11 x12 x13 x14 x15 x16 x17 x18) (k0_pay52 x0 x1 x2 x3 x4 x5 x6 x7 x8 x9 x10 x11 x12 x13 x14 x15 x16 x17 x18)⟩]

/-- Its stores tile the buffer (checked by evaluation), so they cover it. -/
theorem cover0_24 (p0 : Vec F S2x384x7168 .fp8e4m3) (y : S2x384x7168.Idx) :
    ∃ pc ∈ ([⟨r0_0, p0⟩] : List (View.Piece (Elt F) S2x384x7168 .fp8e4m3)), y ∈ pc.1.set :=
  View.cover_of_tiled [⟨r0_0, p0⟩] S2x384x7168.size (by rfl) y

/-- Window 25's staging buffer after the body, from the input windows' blocks: its 1 store as pieces, LAST
    FIRST (Lib/Pipeline/FrameBody.lean `View.canon`; the payloads are the skeleton's and the values stated above). -/
def out0_25 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : Vec F S2x384x1 .f32 :=
  View.canon [⟨r0_9, k0_pay51 x0 x1 x2 x3 x4 x5 x6 x7 x8 x9 x10 x11 x12 x13 x14 x15 x16 x17 x18⟩]

/-- Its stores tile the buffer (checked by evaluation), so they cover it. -/
theorem cover0_25 (p0 : Vec F S2x384x1 .f32) (y : S2x384x1.Idx) :
    ∃ pc ∈ ([⟨r0_9, p0⟩] : List (View.Piece (Elt F) S2x384x1 .f32)), y ∈ pc.1.set :=
  View.cover_of_tiled [⟨r0_9, p0⟩] S2x384x1.size (by rfl) y

/-- Window 26's staging buffer after the body, from the input windows' blocks: its 1 store as pieces, LAST
    FIRST (Lib/Pipeline/FrameBody.lean `View.canon`; the payloads are the skeleton's and the values stated above). -/
def out0_26 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : Vec F S2x384x2304 .fp8e4m3 :=
  View.canon [⟨r0_11, k0_pay33 (k0_pay53 x0 x1 x2 x3 x4 x5 x6 x7 x8 x9 x10 x11 x12 x13 x14 x15 x16 x17 x18) (k0_pay54 x0 x1 x2 x3 x4 x5 x6 x7 x8 x9 x10 x11 x12 x13 x14 x15 x16 x17 x18) (k0_pay55 x0 x1 x2 x3 x4 x5 x6 x7 x8 x9 x10 x11 x12 x13 x14 x15 x16 x17 x18)⟩]

/-- Its stores tile the buffer (checked by evaluation), so they cover it. -/
theorem cover0_26 (p0 : Vec F S2x384x2304 .fp8e4m3) (y : S2x384x2304.Idx) :
    ∃ pc ∈ ([⟨r0_11, p0⟩] : List (View.Piece (Elt F) S2x384x2304 .fp8e4m3)), y ∈ pc.1.set :=
  View.cover_of_tiled [⟨r0_11, p0⟩] S2x384x2304.size (by rfl) y

/-- Window 27's staging buffer after the body, from the input windows' blocks: its 1 store as pieces, LAST
    FIRST (Lib/Pipeline/FrameBody.lean `View.canon`; the payloads are the skeleton's and the values stated above). -/
def out0_27 (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) : Vec F S2x384x1 .f32 :=
  View.canon [⟨r0_9, k0_pay32 (k0_pay54 x0 x1 x2 x3 x4 x5 x6 x7 x8 x9 x10 x11 x12 x13 x14 x15 x16 x17 x18) (k0_pay55 x0 x1 x2 x3 x4 x5 x6 x7 x8 x9 x10 x11 x12 x13 x14 x15 x16 x17 x18) (k0_pay56 x0 x1 x2 x3 x4 x5 x6 x7 x8 x9 x10 x11 x12 x13 x14 x15 x16 x17 x18)⟩]

/-- Its stores tile the buffer (checked by evaluation), so they cover it. -/
theorem cover0_27 (p0 : Vec F S2x384x1 .f32) (y : S2x384x1.Idx) :
    ∃ pc ∈ ([⟨r0_9, p0⟩] : List (View.Piece (Elt F) S2x384x1 .f32)), y ∈ pc.1.set :=
  View.cover_of_tiled [⟨r0_9, p0⟩] S2x384x1.size (by rfl) y

/-! ## The body's triple -/

set_option maxHeartbeats 8881850 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S2x384x7168 .bf16) (harg0 : arg0.IsWhole) (arg1 : Memref sig .tc .vmem S2x384x1x128 .f32) (harg1 : arg1.IsWhole) (arg2 : Memref sig .tc .vmem S2x384x1x128 .f32) (harg2 : arg2.IsWhole) (arg3 : Memref sig .tc .vmem S7168 .bf16) (harg3 : arg3.IsWhole) (arg4 : Memref sig .tc .vmem S7168x2048 .fp8e4m3) (harg4 : arg4.IsWhole) (arg5 : Memref sig .tc .vmem S2048 .f32) (harg5 : arg5.IsWhole) (arg6 : Memref sig .tc .vmem S7168x2048 .fp8e4m3) (harg6 : arg6.IsWhole) (arg7 : Memref sig .tc .vmem S2048 .f32) (harg7 : arg7.IsWhole) (arg8 : Memref sig .tc .vmem S7168x2048 .fp8e4m3) (harg8 : arg8.IsWhole) (arg9 : Memref sig .tc .vmem S2048 .f32) (harg9 : arg9.IsWhole) (arg10 : Memref sig .tc .vmem S2048x7168 .fp8e4m3) (harg10 : arg10.IsWhole) (arg11 : Memref sig .tc .vmem S7168 .f32) (harg11 : arg11.IsWhole) (arg12 : Memref sig .tc .vmem S7168 .bf16) (harg12 : arg12.IsWhole) (arg13 : Memref sig .tc .vmem S7168x2304 .fp8e4m3) (harg13 : arg13.IsWhole) (arg14 : Memref sig .tc .vmem S2304 .f32) (harg14 : arg14.IsWhole) (arg15 : Memref sig .tc .vmem S7168x2304 .fp8e4m3) (harg15 : arg15.IsWhole) (arg16 : Memref sig .tc .vmem S2304 .f32) (harg16 : arg16.IsWhole) (arg17 : Memref sig .tc .vmem S2304x7168 .fp8e4m3) (harg17 : arg17.IsWhole) (arg18 : Memref sig .tc .vmem S7168 .f32) (harg18 : arg18.IsWhole) (arg19 : Memref sig .tc .vmem S2x384x7168 .bf16) (harg19 : arg19.IsWhole) (arg20 : Memref sig .tc .vmem S2x384x7168 .fp8e4m3) (harg20 : arg20.IsWhole) (arg21 : Memref sig .tc .vmem S2x384x1 .f32) (harg21 : arg21.IsWhole) (arg22 : Memref sig .tc .vmem S2x384x2048 .fp8e4m3) (harg22 : arg22.IsWhole) (arg23 : Memref sig .tc .vmem S2x384x1 .f32) (harg23 : arg23.IsWhole) (arg24 : Memref sig .tc .vmem S2x384x7168 .fp8e4m3) (harg24 : arg24.IsWhole) (arg25 : Memref sig .tc .vmem S2x384x1 .f32) (harg25 : arg25.IsWhole) (arg26 : Memref sig .tc .vmem S2x384x2304 .fp8e4m3) (harg26 : arg26.IsWhole) (arg27 : Memref sig .tc .vmem S2x384x1 .f32) (harg27 : arg27.IsWhole)
    (x0 : Vec F S2x384x7168 .bf16) (x1 : Vec F S2x384x1x128 .f32) (x2 : Vec F S2x384x1x128 .f32) (x3 : Vec F S7168 .bf16) (x4 : Vec F S7168x2048 .fp8e4m3) (x5 : Vec F S2048 .f32) (x6 : Vec F S7168x2048 .fp8e4m3) (x7 : Vec F S2048 .f32) (x8 : Vec F S7168x2048 .fp8e4m3) (x9 : Vec F S2048 .f32) (x10 : Vec F S2048x7168 .fp8e4m3) (x11 : Vec F S7168 .f32) (x12 : Vec F S7168 .bf16) (x13 : Vec F S7168x2304 .fp8e4m3) (x14 : Vec F S2304 .f32) (x15 : Vec F S7168x2304 .fp8e4m3) (x16 : Vec F S2304 .f32) (x17 : Vec F S2304x7168 .fp8e4m3) (x18 : Vec F S7168 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (out0_19 x0 x1 x2 x3 x4 x5 x6 x7 x8 x9 x10 x11 x12 x13 x14 x15 x16 x17 x18) ∗ owns (c : Thread nD τ) arg20 fullShare (out0_20 x0 x1 x2 x3 x4 x5 x6 x7 x8 x9 x10 x11 x12 x13 x14 x15 x16 x17 x18) ∗ owns (c : Thread nD τ) arg21 fullShare (out0_21 x0 x1 x2 x3 x4 x5 x6 x7 x8 x9 x10 x11 x12 x13 x14 x15 x16 x17 x18) ∗ owns (c : Thread nD τ) arg22 fullShare (out0_22 x0 x1 x2 x3 x4 x5 x6 x7 x8 x9 x10 x11 x12 x13 x14 x15 x16 x17 x18) ∗ owns (c : Thread nD τ) arg23 fullShare (out0_23 x0 x1 x2 x3 x4 x5 x6 x7 x8 x9 x10 x11 x12 x13 x14 x15 x16 x17 x18) ∗ owns (c : Thread nD τ) arg24 fullShare (out0_24 x0 x1 x2 x3 x4 x5 x6 x7 x8 x9 x10 x11 x12 x13 x14 x15 x16 x17 x18) ∗ owns (c : Thread nD τ) arg25 fullShare (out0_25 x0 x1 x2 x3 x4 x5 x6 x7 x8 x9 x10 x11 x12 x13 x14 x15 x16 x17 x18) ∗ owns (c : Thread nD τ) arg26 fullShare (out0_26 x0 x1 x2 x3 x4 x5 x6 x7 x8 x9 x10 x11 x12 x13 x14 x15 x16 x17 x18) ∗ owns (c : Thread nD τ) arg27 fullShare (out0_27 x0 x1 x2 x3 x4 x5 x6 x7 x8 x9 x10 x11 x12 x13 x14 x15 x16 x17 x18)) -∗ K ⟨⟩))
      ⊢ wp frame (wpE (defs₀ (F := F)) Variants.none c none) E (cc0_ref_layer arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_ref_layer_eq_skeleton]; unfold cc0_ref_layer_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  iexists _; isplitr
  swap; · iexact H27
  ipureintro
  refine (View.read_writes_eq_canon _ _ _ (cover0_27 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨_ + 28, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 2000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_ReferenceIdeal`'s statement (Defs.lean) at any `F` — Proof.lean cites it at `Bits`:
    `theorem Cert.Proof.claim : Cert.Claim := ⟨Cert.ReferenceIdeal.Gen.facts, fun m ρ _ => Cert.ReferenceIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.ReferenceIdeal.Gen

end
-- ==== Proof.Layer.Math.lean ====
/-
  The layer's mathematics, row by row, over the extended reals. Both programs are read into these functions: a row is a
  function of its coordinate, a literal keeps the bit pattern both programs print.
-/
module
public import Idealize.ShloMosaic.Lib.Pointwise
@[expose] public section
noncomputable section
open Idealize.ShloMosaic
namespace Layer

variable {n : ℕ}

/-- The quantiser's threshold of a row: its largest magnitude times 1/448. -/
def qT (v : Fin n → EReal) : EReal :=
  Finset.univ.fold max (Ideal.ofBits .f32 0xFF800000#32) (fun k => FloatOps.absf (F := Ideal) (φ := .f32) (v k))
    * Ideal.ofBits .f32 0x3B124925#32

/-- The least power of two, of exponent -125 to 127, above the threshold. -/
def qAbove (t : EReal) : EReal :=
  Finset.univ.fold min (Ideal.ofBits .f32 0x7F800000#32) fun k : Fin 253 =>
    if t < FloatOps.exp2 (F := Ideal) (φ := .f32) (FloatOps.sitofp (F := Ideal) .f32 (IntOp.subi (BitVec.ofNat 32 k) 125#32))
    then FloatOps.exp2 (F := Ideal) (φ := .f32) (FloatOps.sitofp (F := Ideal) .f32 (IntOp.subi (BitVec.ofNat 32 k) 125#32))
    else Ideal.ofBits .f32 0x7F800000#32

/-- The scale a row of threshold `t` is stored with. -/
def qScale (t : EReal) : EReal :=
  if t < Ideal.ofBits .f32 0x00800000#32 then 1
  else if t < Ideal.ofBits .f32 0x7F800000#32 then qAbove t else 0

/-- What a row of threshold `t` is multiplied by before it is clipped. -/
def qInv (t : EReal) : EReal :=
  if t < Ideal.ofBits .f32 0x7E800000#32 then
    if t < Ideal.ofBits .f32 0x00800000#32 then 1 else Ideal.div 1 (qAbove t)
  else if t < Ideal.ofBits .f32 0x7F000000#32 then 0
  else if t < Ideal.ofBits .f32 0x7F800000#32 then Ideal.ofBits .f32 0xFF800000#32
  else Ideal.ofBits .f32 0xFF000000#32

/-- The scaled element, clipped to ±448. -/
def clip (a s : EReal) : EReal :=
  min (Ideal.ofBits .f32 0x43E00000#32) (max (Ideal.ofBits .f32 0xC3E00000#32) (a * s))

/-- The code of a row's element. -/
def qCode (v : Fin n → EReal) (k : Fin n) : EReal := clip (v k) (qInv (qT v))

/-- The scale of a row. -/
def qS (v : Fin n → EReal) : EReal := qScale (qT v)

/-- The root-mean-square norm of a row of 7168, weighted by `g`. -/
def rms (v g : Fin 7168 → EReal) (k : Fin 7168) : EReal :=
  v k * Ideal.rsqrt (Ideal.div (∑ x, v x * v x) (Ideal.ofBits .f32 0x45E00000#32) + Ideal.ofBits .f32 0x3727C5AC#32) * g k

/-- A quantised row times a column of quantised weights. -/
def lin (c : Fin n → EReal) (s : EReal) (w : Fin n → EReal) (ws : EReal) : EReal := (∑ k, c k * w k) * s * ws

/-- The projection's element added to the residual stream's. -/
def res (x : EReal) (c : Fin n → EReal) (s : EReal) (w : Fin n → EReal) (ws : EReal) : EReal := x + lin c s w ws

/-- The gate of a unit times its value. -/
def glu (a b : EReal) : EReal := a * Ideal.logistic a * b

/-- The other half's element that the rotation mixes in: negated in the first half. -/
def rot (v : Fin 128 → EReal) (d : Fin 128) : EReal :=
  if h : (d : ℕ) < 64 then -v ⟨d + 64, by omega⟩ else v ⟨d - 64, by omega⟩

/-- Rotary position encoding of one head's vector. -/
def rope (v c s : Fin 128 → EReal) (d : Fin 128) : EReal := v d * c d + rot v d * s d

/-- The causal score of query position `i` against key position `j`. -/
def score (q k : Fin 384 → Fin 128 → EReal) (i j : Fin 384) : EReal :=
  if (j : ℕ) ≤ i then (∑ d, q i d * k j d) * Ideal.ofBits .f32 0x3DB504F3#32 else Ideal.ofBits .f32 0xFF800000#32

/-- A score's exponential, the row's largest score taken off. -/
def expw (s : Fin 384 → EReal) (j : Fin 384) : EReal :=
  Ideal.exp (s j - Finset.univ.fold max (Ideal.ofBits .f32 0xFF800000#32) s)

/-- One head's attention at query position `i`. -/
def attn (q k v : Fin 384 → Fin 128 → EReal) (i : Fin 384) (d : Fin 128) : EReal :=
  ∑ j, Ideal.div (expw (score q k i) j) (∑ x, expw (score q k i) x) * v j d

/-- The rotation as a cyclic shift by half a head, the sign carried by the table `s`. -/
def ropeK (v c s : Fin 128 → EReal) (d : Fin 128) : EReal :=
  v d * c d + v ⟨(d + 128 - 64) % 128, Nat.mod_lt _ (by decide)⟩ * s d

/-- With the sine negated in the first half, the cyclic shift gives the rotary encoding. -/
theorem ropeK_eq {v c s s' : Fin 128 → EReal} (h : ∀ d : Fin 128, s' d = if (d : ℕ) < 64 then -s d else s d) :
    ropeK v c s' = rope v c s := by
  funext d
  unfold ropeK rope rot
  rw [h d]
  by_cases hd : (d : ℕ) < 64
  · have e : (d + 128 - 64) % 128 = (d : ℕ) + 64 := by omega
    simp only [hd, e, if_true, dif_pos, mul_neg, neg_mul]
  · have e : (d + 128 - 64) % 128 = (d : ℕ) - 64 := by omega
    simp only [hd, e, if_false, dif_neg, not_false_eq_true]

/-- Row `i` of the batch entry that row `r` belongs to. -/
def rowOf (r : Fin 768) (i : Fin 384) : Fin 768 := ⟨384 * (r / 384) + i, by omega⟩
/-- Column `d` of the head that column `o` belongs to. -/
def colOf (o : Fin 2048) (d : Fin 128) : Fin 2048 := ⟨128 * (o / 128) + d, by omega⟩

/-- The attention of all heads and batch entries, one row per token: an encoding `e` of each head's query and key. -/
def attnOf (e : Fin 768 → (Fin 128 → EReal) → Fin 128 → EReal) (q k v : Fin 768 → Fin 2048 → EReal) (r : Fin 768) (o : Fin 2048) : EReal :=
  attn (fun i => e (rowOf r i) fun d => q (rowOf r i) (colOf o d)) (fun i => e (rowOf r i) fun d => k (rowOf r i) (colOf o d))
    (fun i d => v (rowOf r i) (colOf o d)) ⟨r % 384, Nat.mod_lt _ (by decide)⟩ ⟨o % 128, Nat.mod_lt _ (by decide)⟩

/-! Rows read elsewhere that hold the same elements have the same results. -/

theorem res_congr {x x' : EReal} {c c' w w' : Fin n → EReal} {s s' ws ws' : EReal} (hx : x = x') (hc : ∀ k, c k = c' k)
    (hs : s = s') (hw : ∀ k, w k = w' k) (hws : ws = ws') : res x c s w ws = res x' c' s' w' ws' := by
  subst hx hs hws; rw [funext hc, funext hw]
theorem lin_congr {c c' w w' : Fin n → EReal} {s s' ws ws' : EReal} (hc : ∀ k, c k = c' k)
    (hs : s = s') (hw : ∀ k, w k = w' k) (hws : ws = ws') : lin c s w ws = lin c' s' w' ws' := by
  subst hs hws; rw [funext hc, funext hw]
theorem glu_congr {a a' b b' : EReal} (ha : a = a') (hb : b = b') : glu a b = glu a' b' := by rw [ha, hb]
theorem qCode_congr {v v' : Fin n → EReal} {k k' : Fin n} (hv : ∀ k, v k = v' k) (hk : k = k') : qCode v k = qCode v' k' := by
  rw [funext hv, hk]
theorem qS_congr {v v' : Fin n → EReal} (hv : ∀ k, v k = v' k) : qS v = qS v' := by rw [funext hv]
theorem rms_congr {v v' g g' : Fin 7168 → EReal} (hv : ∀ k, v k = v' k) (hg : ∀ k, g k = g' k) (k : Fin 7168) :
    rms v g k = rms v' g' k := by rw [funext hv, funext hg]
theorem ropeK_congr {v v' c c' s s' : Fin 128 → EReal} (hv : ∀ d, v d = v' d) (hc : ∀ d, c d = c' d) (hs : ∀ d, s d = s' d)
    (d : Fin 128) : ropeK v c s d = ropeK v' c' s' d := by rw [funext hv, funext hc, funext hs]
theorem attn_congr {q q' k k' v v' : Fin 384 → Fin 128 → EReal} {i i' : Fin 384} {d d' : Fin 128} (hq : ∀ i d, q i d = q' i d)
    (hk : ∀ i d, k i d = k' i d) (hv : ∀ i d, v i d = v' i d) (hi : i = i') (hd : d = d') : attn q k v i d = attn q' k' v' i' d' := by
  rw [funext fun i => funext (hq i), funext fun i => funext (hk i), funext fun i => funext (hv i), hi, hd]

end Layer
-- ==== Proof.Layer.Quant.lean ====
/-
  The two power-of-two scales of the row quantiser, found two ways: the kernel searches the exponent field of the
  threshold bit by bit and assembles the scales as bit patterns; the reference takes the least power of two above the
  threshold. They agree at every threshold from zero to infinity.
-/
module
public import proofs.«01_k».proof.Proof.Layer.Math
@[expose] public section
set_option maxRecDepth 16384
noncomputable section
open Idealize.ShloMosaic
namespace Layer

/-- One step of the kernel's search: the field `n` with the bit `b` added, if the power of two of that field is at most `t`. -/
def expStep (t : Ideal .f32) (b n : BitVec 32) : BitVec 32 :=
  Scalar.select (FloatOps.cmpf (F := Ideal) .oge t (FloatOps.ofBits (F := Ideal) .f32 (IntOp.shli .vector (IntOp.addi n b) 23#32)))
    (IntOp.addi n b) n
/-- The exponent field of `t`. -/
def expField (t : Ideal .f32) : BitVec 32 :=
  expStep t 1#32 (expStep t 2#32 (expStep t 4#32 (expStep t 8#32 (expStep t 16#32 (expStep t 32#32 (expStep t 64#32
    (expStep t 128#32 0#32)))))))
/-- The exponent the scales are assembled from. -/
def expOf (n : BitVec 32) : BitVec 32 := Scalar.select (IntOp.cmpi .eq n 0#32) 0#32 (IntOp.subi n 126#32)
/-- The kernel's scale. -/
def kUp (t : Ideal .f32) : EReal := Ideal.ofBits .f32 (IntOp.shli .vector (IntOp.addi (expOf (expField t)) 127#32) 23#32)
/-- The kernel's inverse scale. -/
def kDown (t : Ideal .f32) : EReal := Ideal.ofBits .f32 (IntOp.shli .vector (IntOp.subi 127#32 (expOf (expField t))) 23#32)

/-- The value of the pattern whose exponent field is `n` and whose other bits are zero. -/
def thr (n : ℕ) : EReal := Ideal.ofBits .f32 (BitVec.ofNat 32 n <<< 23)

/-- A power of two. -/
def p2 (z : ℤ) : EReal := ((2 : ℝ) ^ z : ℝ)

theorem p2_lt {a b : ℤ} : p2 a < p2 b ↔ a < b := by
  unfold p2; rw [EReal.coe_lt_coe_iff]; exact zpow_lt_zpow_iff_right₀ (by norm_num)
theorem p2_le {a b : ℤ} : p2 a ≤ p2 b ↔ a ≤ b := by rw [← not_lt, p2_lt, not_lt]
theorem p2_pos (a : ℤ) : 0 < p2 a := by
  unfold p2; exact_mod_cast zpow_pos (by norm_num : (0 : ℝ) < 2) a
theorem p2_lt_top (a : ℤ) : p2 a < ⊤ := EReal.coe_lt_top _

/-- The fields of such a pattern. -/
theorem thr_bits : ∀ n : Fin 256, ((BitVec.ofNat 32 n.val <<< 23).extractLsb' 23 8).toNat = n.val
    ∧ ((BitVec.ofNat 32 n.val <<< 23).extractLsb' 0 23).toNat = 0
    ∧ ((BitVec.ofNat 32 n.val <<< 23).extractLsb' 31 1 == 1#1) = false := by decide +kernel

theorem thr_eq {n : ℕ} (h1 : 1 ≤ n) (h2 : n ≤ 254) : thr n = p2 (n - 127) := by
  obtain ⟨a, b, c⟩ := thr_bits ⟨n, by omega⟩
  simp only at a b c
  unfold thr p2
  simp only [Ideal.ofBits, Ideal.ieee, Nat.reduceAdd, a, b, c]
  rw [if_neg (by omega), if_neg (by omega)]
  have e : (2 : ℝ) ^ ((n : ℤ) - (2 ^ (8 - 1) - 1) - (23 : ℕ)) = 2 ^ ((n : ℤ) - 127) * (2 ^ (23 : ℤ))⁻¹ := by
    rw [← zpow_neg, ← zpow_add₀ (by norm_num)]
    exact congrArg _ (by norm_num; ring)
  exact congrArg Real.toEReal (by rw [e]; push_cast; norm_num; ring)
theorem thr_top : thr 255 = ⊤ := by
  obtain ⟨a, b, c⟩ := thr_bits ⟨255, by omega⟩
  simp only at a b c
  unfold thr
  simp [Ideal.ofBits, Ideal.ieee, a, b, c]

theorem lit_p2 {n : ℕ} (b : BitVec 32) (hb : b = BitVec.ofNat 32 n <<< 23) (h1 : 1 ≤ n) (h2 : n ≤ 254) :
    Ideal.ofBits .f32 b = p2 (n - 127) := by subst hb; exact thr_eq h1 h2
theorem lit_inf : Ideal.ofBits .f32 0x7F800000#32 = ⊤ := thr_top
theorem lit_bot : Ideal.ofBits .f32 0xFF800000#32 = ⊥ := by simp [Ideal.ofBits, Ideal.ieee]
theorem lit_min : Ideal.ofBits .f32 0x00800000#32 = p2 (-126) := lit_p2 (n := 1) _ rfl (by omega) (by omega)
theorem lit_126 : Ideal.ofBits .f32 0x7E800000#32 = p2 126 := lit_p2 (n := 253) _ rfl (by omega) (by omega)
theorem lit_127 : Ideal.ofBits .f32 0x7F000000#32 = p2 127 := lit_p2 (n := 254) _ rfl (by omega) (by omega)

/-- What is known of the field after the bits down to `w` were tried: the power of two of `n` is at most `t`, that of
    `n + w` is above it. -/
def Inv (t : EReal) (w n : ℕ) : Prop :=
  n + w ≤ 256 ∧ (n = 0 ∨ thr n ≤ t) ∧ (n + w = 256 ∨ t < thr (n + w))

/-- One bit: the search keeps the invariant, at half the width. -/
theorem step_inv {t : EReal} {w n b : ℕ} (hw : w = 2 * b) (hb : 1 ≤ b) (h : Inv t w n) :
    ∃ n', expStep t (BitVec.ofNat 32 b) (BitVec.ofNat 32 n) = BitVec.ofNat 32 n' ∧ Inv t b n' := by
  obtain ⟨h1, h2, h3⟩ := h
  have e : IntOp.addi (BitVec.ofNat 32 n) (BitVec.ofNat 32 b) = BitVec.ofNat 32 (n + b) := (BitVec.ofNat_add ..).symm
  have s : IntOp.shli .vector (BitVec.ofNat 32 (n + b)) 23#32 = BitVec.ofNat 32 (n + b) <<< 23 := by
    unfold IntOp.shli; rw [if_pos (by decide)]; rfl
  unfold expStep
  rw [e, s]
  by_cases hc : thr (n + b) ≤ t
  · refine ⟨n + b, ?_, by omega, Or.inr hc, ?_⟩
    · have : FloatOps.cmpf (F := Ideal) (φ := .f32) .oge t (FloatOps.ofBits (F := Ideal) .f32 (BitVec.ofNat 32 (n + b) <<< 23)) = 1#1 := by
        exact congrArg BitVec.ofBool (decide_eq_true hc)
      simp only [Scalar.select, this]; rfl
    · rcases h3 with h3 | h3
      · left; omega
      · right; rw [show n + b + b = n + w by omega]; exact h3
  · refine ⟨n, ?_, by omega, h2, Or.inr (not_le.mp hc)⟩
    have : FloatOps.cmpf (F := Ideal) (φ := .f32) .oge t (FloatOps.ofBits (F := Ideal) .f32 (BitVec.ofNat 32 (n + b) <<< 23)) = 0#1 := by
      exact congrArg BitVec.ofBool (decide_eq_false hc)
    simp only [Scalar.select, this]; rfl

/-- The search ends at the greatest field whose power of two is at most `t`. -/
theorem field_inv (t : EReal) : ∃ n, expField t = BitVec.ofNat 32 n ∧ Inv t 1 n := by
  obtain ⟨n1, e1, i1⟩ := step_inv (t := t) (b := 128) rfl (by omega) (⟨by omega, Or.inl rfl, Or.inl rfl⟩ : Inv t 256 0)
  obtain ⟨n2, e2, i2⟩ := step_inv (b := 64) rfl (by omega) i1
  obtain ⟨n3, e3, i3⟩ := step_inv (b := 32) rfl (by omega) i2
  obtain ⟨n4, e4, i4⟩ := step_inv (b := 16) rfl (by omega) i3
  obtain ⟨n5, e5, i5⟩ := step_inv (b := 8) rfl (by omega) i4
  obtain ⟨n6, e6, i6⟩ := step_inv (b := 4) rfl (by omega) i5
  obtain ⟨n7, e7, i7⟩ := step_inv (b := 2) rfl (by omega) i6
  obtain ⟨n8, e8, i8⟩ := step_inv (b := 1) rfl (by omega) i7
  refine ⟨n8, ?_, i8⟩
  unfold expField
  rw [show (0#32 : BitVec 32) = BitVec.ofNat 32 0 from rfl, e1, e2, e3, e4, e5, e6, e7, e8]

/-- The bit patterns the kernel assembles, by field. -/
theorem up_bits : ∀ n : Fin 256, 1 ≤ n.val →
    IntOp.shli .vector (IntOp.addi (expOf (BitVec.ofNat 32 n.val)) 127#32) 23#32 = BitVec.ofNat 32 (n.val + 1) <<< 23 := by
  decide +kernel
theorem down_bits : ∀ n : Fin 256, 1 ≤ n.val → n.val ≤ 253 →
    IntOp.shli .vector (IntOp.subi 127#32 (expOf (BitVec.ofNat 32 n.val))) 23#32 = BitVec.ofNat 32 (253 - n.val) <<< 23 := by
  decide +kernel

/-- The table entry of index `k` is the power of two of exponent `k - 125`. -/
theorem table (k : Fin 253) :
    FloatOps.exp2 (F := Ideal) (φ := .f32) (FloatOps.sitofp (F := Ideal) .f32 (IntOp.subi (BitVec.ofNat 32 k) 125#32)) = p2 ((k : ℤ) - 125) := by
  have e : (IntOp.subi (BitVec.ofNat 32 k) 125#32).toInt = (k : ℤ) - 125 :=
    (by decide +kernel : ∀ k : Fin 253, (IntOp.subi (BitVec.ofNat 32 k) 125#32).toInt = (k : ℤ) - 125) k
  change Ideal.exp2 ((((IntOp.subi (BitVec.ofNat 32 k) 125#32).toInt : ℝ)) : EReal) = _
  rw [Ideal.exp2_coe, e]
  unfold p2
  congr 1
  rw [← Real.rpow_intCast]; rfl

/-- The least table entry above a threshold between two neighbouring powers. -/
theorem above_eq {t : EReal} {z : ℤ} (h1 : -125 ≤ z) (h2 : z ≤ 127) (lo : p2 (z - 1) ≤ t) (hi : t < p2 z) : qAbove t = p2 z := by
  unfold qAbove
  simp only [table, lit_inf]
  apply le_antisymm
  · rw [Finset.fold_min_le]
    refine Or.inr ⟨⟨(z + 125).toNat, by omega⟩, Finset.mem_univ _, ?_⟩
    have e : ((⟨(z + 125).toNat, by omega⟩ : Fin 253).val : ℤ) - 125 = z := by simp only; omega
    rw [e, if_pos hi]
  · rw [Finset.le_fold_min]
    refine ⟨le_top, fun k _ => ?_⟩
    split_ifs with h
    · have := p2_lt.mp (lo.trans_lt h); exact p2_le.mpr (by omega)
    · exact le_top
theorem above_top {t : EReal} (lo : p2 127 ≤ t) : qAbove t = ⊤ := by
  unfold qAbove
  simp only [table, lit_inf]
  refine le_antisymm le_top ((Finset.le_fold_min _).mpr ⟨le_rfl, fun k _ => ?_⟩)
  rw [if_neg]
  exact not_lt.mpr ((p2_le.mpr (by omega)).trans lo)

theorem p2_zero : p2 0 = 1 := by simp [p2]
theorem div_p2 (z : ℤ) : Ideal.div 1 (p2 z) = p2 (-z) := by
  unfold Ideal.div
  rw [if_neg (p2_pos z).ne', one_mul]
  unfold p2
  rw [← EReal.coe_inv, zpow_neg]

/-- Both scales, at every threshold. -/
theorem scales_eq {t : EReal} (h0 : 0 ≤ t) : kUp t = qScale t ∧ kDown t = qInv t := by
  obtain ⟨n, e, h1, h2, h3⟩ := field_inv t
  have hn : n ≤ 255 := by omega
  unfold kUp kDown qScale qInv
  rw [e]
  simp only [lit_inf, lit_min, lit_126, lit_127]
  rcases Nat.lt_or_ge n 1 with hz | hz
  · obtain rfl : n = 0 := by omega
    have ht : t < p2 (-126) := by
      rcases h3 with h3 | h3
      · omega
      · rw [thr_eq (by omega) (by omega)] at h3; simpa using h3
    have o : Ideal.ofBits .f32 0x3F800000#32 = 1 := (lit_p2 (n := 127) _ rfl (by omega) (by omega)).trans p2_zero
    have u : IntOp.shli .vector (IntOp.addi (expOf (BitVec.ofNat 32 0)) 127#32) 23#32 = 0x3F800000#32 := by decide +kernel
    have d : IntOp.shli .vector (IntOp.subi 127#32 (expOf (BitVec.ofNat 32 0))) 23#32 = 0x3F800000#32 := by decide +kernel
    rw [if_pos ht, if_pos (ht.trans (p2_lt.mpr (by omega))), if_pos ht, u, d, o]
    exact ⟨rfl, rfl⟩
  have lo : thr n ≤ t := h2.resolve_left (by omega)
  have u := up_bits ⟨n, by omega⟩ hz
  simp only at u
  rw [u, if_neg, if_neg (c := t < p2 (-126))]
  rotate_left
  · rcases Nat.lt_or_ge n 255 with h | h
    · rw [thr_eq hz (by omega)] at lo
      exact not_lt.mpr ((p2_le.mpr (by omega)).trans lo)
    · obtain rfl : n = 255 := by omega
      rw [thr_top] at lo; exact not_lt.mpr (le_top.trans lo)
  · rcases Nat.lt_or_ge n 255 with h | h
    · rw [thr_eq hz (by omega)] at lo
      exact not_lt.mpr ((p2_le.mpr (by omega)).trans lo)
    · obtain rfl : n = 255 := by omega
      rw [thr_top] at lo; exact not_lt.mpr (le_top.trans lo)
  rcases Nat.lt_or_ge n 254 with hs | hs
  · rw [thr_eq hz (by omega)] at lo
    have hi : t < p2 (n - 126) := by
      rcases h3 with h3 | h3
      · omega
      · rw [thr_eq (by omega) (by omega)] at h3
        rwa [show ((n + 1 : ℕ) : ℤ) - 127 = n - 126 by push_cast; ring] at h3
    have ab : qAbove t = p2 (n - 126) :=
      above_eq (by omega) (by omega) (by rwa [show (n : ℤ) - 126 - 1 = n - 127 by ring]) hi
    have d := down_bits ⟨n, by omega⟩ hz (by simp only; omega)
    simp only at d
    rw [d, if_pos (hi.trans (p2_lt_top _)), ab]
    constructor
    · refine (thr_eq (n := n + 1) (by omega) (by omega)).trans ?_
      congr 1; push_cast; ring
    · rcases Nat.lt_or_ge n 253 with hr | hr
      · rw [if_pos (hi.trans_le (p2_le.mpr (by omega))), div_p2]
        refine (thr_eq (n := 253 - n) (by omega) (by omega)).trans ?_
        congr 1; push_cast [Nat.cast_sub (show n ≤ 253 by omega)]; ring
      · obtain rfl : n = 253 := by omega
        rw [if_neg (not_lt.mpr ((p2_le.mpr (by norm_num)).trans lo)), if_pos (hi.trans_le (p2_le.mpr (by norm_num)))]
        exact Ideal.ofBits_zero .f32
  · have lo' : p2 127 ≤ t := by
      rcases Nat.lt_or_ge n 255 with h | h
      · obtain rfl : n = 254 := by omega
        rw [thr_eq hz (by omega)] at lo; simpa using lo
      · obtain rfl : n = 255 := by omega
        rw [thr_top] at lo; exact (p2_lt_top _).le.trans lo
    rw [if_neg (not_lt.mpr ((p2_le.mpr (by norm_num)).trans lo')), if_neg (not_lt.mpr lo')]
    rcases Nat.lt_or_ge n 255 with h | h
    · obtain rfl : n = 254 := by omega
      have hi : t < ⊤ := by
        rcases h3 with h3 | h3
        · omega
        · rwa [thr_top] at h3
      have d : IntOp.shli .vector (IntOp.subi 127#32 (expOf (BitVec.ofNat 32 254))) 23#32 = 0xFF800000#32 := by decide +kernel
      rw [if_pos hi, if_pos hi, above_top lo', d]
      exact ⟨thr_top, rfl⟩
    · obtain rfl : n = 255 := by omega
      rw [thr_top] at lo
      have d : IntOp.shli .vector (IntOp.subi 127#32 (expOf (BitVec.ofNat 32 255))) 23#32 = 0xFF000000#32 := by decide +kernel
      rw [if_neg (not_lt.mpr lo), if_neg (not_lt.mpr lo), d]
      refine ⟨?_, rfl⟩
      simp [Ideal.ofBits, Ideal.ieee]

/-- A row's threshold is not negative. -/
theorem qT_nonneg {n : ℕ} (v : Fin (n + 1) → EReal) : 0 ≤ qT v := by
  have c : (0 : EReal) ≤ Ideal.ofBits .f32 0x3B124925#32 := by
    simp only [Ideal.ofBits, Ideal.ieee]
    rw [if_neg (by decide), if_neg (by decide)]
    exact EReal.coe_nonneg.mpr (by rw [if_neg (by decide)]; positivity)
  refine mul_nonneg ?_ c
  rw [Finset.le_fold_max]
  refine Or.inr ⟨0, Finset.mem_univ _, ?_⟩
  change (0 : EReal) ≤ max (v 0) (-v 0)
  rcases le_total 0 (v 0) with h | h
  · exact le_max_of_le_left h
  · exact le_max_of_le_right (EReal.neg_nonneg.mpr h)

end Layer
-- ==== Proof.Call.Quantise.lean ====
module
public import proofs.«01_k».proof.Proof.Gen.KernelIdeal.Frame
public import proofs.«01_k».proof.Proof.Layer.Quant
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

/-! The row quantiser as the four quantising calls of the kernel compute it: at each row of a block of
128 rows it finds the exponent field of the row's threshold by searching its eight bits, and assembles the
scale and its inverse from that exponent. Every fact here is about variables, so each call uses it as a term. -/
namespace Cert.KernelIdeal.Call
open Cert.KernelIdeal Cert.KernelIdeal.Gen

/-- One step of the search at every row of a block. -/
def stepV (t : FVec Ideal S128x1 .f32) (b : BitVec 32) (n : IVec S128x1 32) : IVec S128x1 32 :=
  select (cmpf .oge t (bitcastToFloat .f32 (shli (addi n (broadcast S128x1 b)) (broadcast S128x1 23#32)))) (addi n (broadcast S128x1 b)) n
/-- The exponent the scales are assembled from, at every row of a block. -/
def expV (n : IVec S128x1 32) : IVec S128x1 32 :=
  select (cmpi .eq n (broadcast S128x1 0#32)) (broadcast S128x1 0#32) (subi n (broadcast S128x1 126#32))
/-- The search over all eight bits, from 128 down. -/
def fieldV (t : FVec Ideal S128x1 .f32) : IVec S128x1 32 :=
  stepV t 1#32 (stepV t 2#32 (stepV t 4#32 (stepV t 8#32 (stepV t 16#32 (stepV t 32#32 (stepV t 64#32 (stepV t 128#32 (broadcast S128x1 0#32))))))))

theorem stepV_at (t : FVec Ideal S128x1 .f32) (b : BitVec 32) (n : IVec S128x1 32) (j : S128x1.Idx) :
    stepV t b n j = Layer.expStep (t j) b (n j) := rfl
theorem expV_at (n : IVec S128x1 32) (j : S128x1.Idx) : expV n j = Layer.expOf (n j) := rfl
theorem fieldV_at (t : FVec Ideal S128x1 .f32) (j : S128x1.Idx) : fieldV t j = Layer.expField (t j) := by
  unfold fieldV Layer.expField; simp only [stepV_at]; rfl

/-- The threshold of each row of a block, whatever the row's length. -/
theorem tV_at {n : ℕ} (w : FVec Ideal ⟨2, ![128, n]⟩ .f32) (h) (hc) (r : Fin 128) :
    mulf (shapeCast S128x1 (multiReduction .maximumf [1] S128 (absf w) 0xFF800000#32 h (.inl rfl) rfl) hc)
      (broadcast S128x1 (Scalar.ofBits .f32 0x3B124925#32)) (ix2 r 0) = Layer.qT fun k => w (ix2 r k) := by
  pointwise [Layer.qT]
/-- The codes of a block from its entries and the exponents of its rows, whatever the row's length. -/
theorem cV_at {n : ℕ} (v : FVec Ideal ⟨2, ![128, n]⟩ .f32) (e : IVec S128x1 32) (hb) (ht) (r : Fin 128) (k : Fin n) :
    truncf .fp8e4m3 (minimumf (broadcast ⟨2, ![128, n]⟩ (Scalar.ofBits .f32 0x43E00000#32))
        (maximumf (broadcast ⟨2, ![128, n]⟩ (Scalar.ofBits .f32 0xC3E00000#32))
          (mulf v (broadcastTo ⟨2, ![128, n]⟩ (bitcastToFloat .f32 (shli (subi (broadcast S128x1 127#32) e) (broadcast S128x1 23#32))) hb)))) ht (ix2 r k)
      = Layer.clip (v (ix2 r k)) (Ideal.ofBits .f32 (IntOp.shli .vector (IntOp.subi 127#32 (e (ix2 r 0))) 23#32)) := by
  pointwise [Layer.clip]

variable {n : ℕ} {w : Fin (n + 1) → EReal} {e : IVec S128x1 32} {t : FVec Ideal S128x1 .f32} {r : Fin 128}
/-- The exponent at a row whose threshold is that of the values `w`. -/
theorem e_at (he : e = expV (fieldV t)) (ht : t (ix2 r 0) = Layer.qT w) :
    e (ix2 r 0) = Layer.expOf (Layer.expField (Layer.qT w)) :=
  (congrFun he (ix2 r 0)).trans ((expV_at _ _).trans (congrArg Layer.expOf ((fieldV_at _ _).trans (congrArg Layer.expField ht))))
/-- The code of a row's entry from the exponent found at the row. -/
theorem clip_eq (he : e = expV (fieldV t)) (ht : t (ix2 r 0) = Layer.qT w) {a : EReal} {k : Fin (n + 1)} (ha : a = w k) :
    Layer.clip a (Ideal.ofBits .f32 (IntOp.shli .vector (IntOp.subi 127#32 (e (ix2 r 0))) 23#32)) = Layer.qCode w k :=
  congrArg₂ Layer.clip ha ((congrArg (fun e => Ideal.ofBits .f32 (IntOp.shli .vector (IntOp.subi 127#32 e) 23#32)) (e_at he ht)).trans
    (Layer.scales_eq (Layer.qT_nonneg _)).2)
/-- The scale of a row from the exponent found at the row. -/
theorem scale_eq (he : e = expV (fieldV t)) (ht : t (ix2 r 0) = Layer.qT w) (z : Fin 1) :
    bitcastToFloat (F := Ideal) .f32 (shli (addi e (broadcast S128x1 127#32)) (broadcast S128x1 23#32)) (ix2 r z) = Layer.qS w := by
  obtain rfl : z = 0 := Subsingleton.elim _ _
  exact (congrArg (fun e => Ideal.ofBits .f32 (IntOp.shli .vector (IntOp.addi e 127#32) 23#32)) (e_at he ht)).trans
    (Layer.scales_eq (Layer.qT_nonneg _)).1

end Cert.KernelIdeal.Call
-- ==== Proof.Call.Call0.lean ====
module
public import proofs.«01_k».proof.Proof.Gen.KernelIdeal.Frame
public import proofs.«01_k».proof.Proof.Call.Quantise
@[expose] public section
set_option maxRecDepth 16384
noncomputable section
open Idealize.ShloMosaic Idealize.ShloMosaic.TcCoe Idealize.SL.Sem
open Idealize.ShloMosaic.Pipeline (Dat)

/-! The first call: it normalises each row of the input and quantises it. -/
namespace Cert.KernelIdeal.Call
open Cert.KernelIdeal Cert.KernelIdeal.Gen

theorem v0_at (x : FVec Ideal S128x7168 .bf16) (g : FVec Ideal S1x7168 .bf16) (r : Fin 128) (k : Fin 7168) :
    k0_pay3 (F := Ideal) x g (ix2 r k) = Layer.rms (fun k => x (ix2 r k)) (fun k => g (ix2 0 k)) k := by
  pointwise [k0_pay3, Layer.rms]
theorem t0_at (x : FVec Ideal S128x7168 .bf16) (g : FVec Ideal S1x7168 .bf16) (r : Fin 128) :
    k0_pay4 (F := Ideal) x g (ix2 r 0) = Layer.qT (Layer.rms (fun k => x (ix2 r k)) (fun k => g (ix2 0 k))) :=
  (tV_at (k0_pay3 (F := Ideal) x g) _ _ r).trans (congrArg Layer.qT (funext (v0_at x g r)))
theorem e0_of (t : FVec Ideal S128x1 .f32) (n : IVec S128x1 32) :
    k0_pay8 (F := Ideal) t n (addi n (broadcast S128x1 32#32))
        (bitcastToFloat .f32 (shli (addi n (broadcast S128x1 32#32)) (broadcast S128x1 23#32)))
      = expV (stepV t 1#32 (stepV t 2#32 (stepV t 4#32 (stepV t 8#32 (stepV t 16#32 (stepV t 32#32 n)))))) := rfl
theorem e0_eq (x : FVec Ideal S128x7168 .bf16) (g : FVec Ideal S1x7168 .bf16) :
    k0_pay8 (F := Ideal) (k0_pay4 (F := Ideal) x g) (k0_pay5 (F := Ideal) x g) (k0_pay6 (F := Ideal) x g) (k0_pay7 (F := Ideal) x g)
      = expV (fieldV (k0_pay4 (F := Ideal) x g)) :=
  e0_of (k0_pay4 (F := Ideal) x g) (k0_pay5 (F := Ideal) x g)
/-- One code of a block. -/
theorem code0_at (x : FVec Ideal S128x7168 .bf16) (g : FVec Ideal S1x7168 .bf16) (r : Fin 128) (k : Fin 7168) :
    k0_pay2 (F := Ideal) (k0_pay3 (F := Ideal) x g) (k0_pay8 (F := Ideal) (k0_pay4 (F := Ideal) x g) (k0_pay5 (F := Ideal) x g) (k0_pay6 (F := Ideal) x g) (k0_pay7 (F := Ideal) x g)) (ix2 r k) = Layer.qCode (Layer.rms (fun k => x (ix2 r k)) (fun k => g (ix2 0 k))) k :=
  (cV_at _ _ _ _ r k).trans (clip_eq (n := 7167) (e0_eq x g) (t0_at x g r) (v0_at x g r k))
/-- One scale of a block. -/
theorem scale0_at (x : FVec Ideal S128x7168 .bf16) (g : FVec Ideal S1x7168 .bf16) (r : Fin 128) (z : Fin 1) :
    k0_pay1 (F := Ideal) (k0_pay9 (F := Ideal) (k0_pay4 (F := Ideal) x g) (k0_pay5 (F := Ideal) x g) (k0_pay6 (F := Ideal) x g) (k0_pay7 (F := Ideal) x g)) 23#32 (ix2 r z) = Layer.qS (Layer.rms (fun k => x (ix2 r k)) (fun k => g (ix2 0 k))) :=
  scale_eq (n := 7167) (e0_eq x g) (t0_at x g r) z

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0]
    ∧ win0_3.index t = ![t.val, 0] := (by decide +kernel : ∀ t : Fin grid0.N, _)

set_option maxHeartbeats 1000000 in
/-- What the call leaves in its codes. -/
theorem codes0 (c : Dev nD) : (dat0 V c).arrAt 2 cfg0.N = fun i => Layer.qCode (Layer.rms (fun k => V c main_v27 (ix2 (i 0) k)) (fun k => V c main_v28 (ix2 0 k))) (i 1) := by
  refine (dat0 V c).arrAt_eq_of_covers 2 _ (by decide +kernel) fun t _ y => ?_
  blk_simp; rw [after0_2]; frame_out; unfold k0_pay10 k0_pay11 k0_pay12 k0_pay13; frame_out
  idx_vars y
  refine (code0_at _ _ _ _).trans (Layer.qCode_congr (fun k => Layer.rms_congr (fun k => ?_) (fun k => ?_) _) ?_)
  · blk_ext [iblk0, idx0 t]
  · blk_ext [iblk0, idx0 t]
  · apply Fin.ext; blk_simp [idx0 t]

set_option maxHeartbeats 1000000 in
/-- What the call leaves in its scales. -/
theorem scales0 (c : Dev nD) : (dat0 V c).arrAt 3 cfg0.N = fun i => Layer.qS (Layer.rms (fun k => V c main_v27 (ix2 (i 0) k)) (fun k => V c main_v28 (ix2 0 k))) := by
  refine (dat0 V c).arrAt_eq_of_covers 3 _ (by decide +kernel) fun t _ y => ?_
  blk_simp; rw [after0_3]; frame_out; unfold k0_pay10 k0_pay11 k0_pay12 k0_pay13; frame_out
  idx_vars y
  refine (scale0_at _ _ _ _).trans (Layer.qS_congr (fun k => Layer.rms_congr (fun k => ?_) (fun k => ?_) _))
  · blk_ext [iblk0, idx0 t]
  · blk_ext [iblk0, idx0 t]

end Cert.KernelIdeal.Call
-- ==== Proof.Call.Call1.lean ====
module
public import proofs.«01_k».proof.Proof.Gen.KernelIdeal.Frame
public import proofs.«01_k».proof.Proof.Layer.Math
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

/-! The second call: queries, keys and values of two heads, the rotary encoding, and the causal attention of
each of the two batch entries. -/
namespace Cert.KernelIdeal.Call
open Cert.KernelIdeal Cert.KernelIdeal.Gen

/-- The scores of one batch entry and one head, masked. -/
def scoreV (m : IVec S384x384 1) (q k : FVec Ideal S384x128 .bf16) : FVec Ideal S384x384 .f32 :=
  select m (mulf (matmul dot_S384x128_S384x128_S384x384_1_1_0_0_n_n none q k (constant S384x384 .f32 0x00000000#32))
    (broadcast S384x384 (Scalar.ofBits .f32 0x3DB504F3#32))) (broadcast S384x384 (Scalar.ofBits .f32 0xFF800000#32))
/-- The exponentials of scores, each row's largest taken off. -/
def expwV (s : FVec Ideal S384x384 .f32) : FVec Ideal S384x384 .f32 :=
  exp (subf s (broadcastTo S384x384 (shapeCast S384x1 (multiReduction .maximumf [1] S384 s 0xFF800000#32 reduces_S384x384_S384 (.inl rfl) rfl)
    shapeCasts_S384_S384x1) broadcasts_S384x1_S384x384))
/-- The values weighted by the normalised exponentials. -/
def mixV (e : FVec Ideal S384x384 .f32) (v : FVec Ideal S384x128 .bf16) : FVec Ideal S384x128 .f32 :=
  matmul dot_S384x384_S384x128_S384x128_1_0_0_1_n_n none (truncf .bf16 (divf e (broadcastTo S384x384
    (shapeCast S384x1 (multiReduction .add [1] S384 e 0x00000000#32 reduces_S384x384_S384 (.inl rfl) rfl) shapeCasts_S384_S384x1)
    broadcasts_S384x1_S384x384)) bitsLt_bf16_f32) v (constant S384x128 .f32 0x00000000#32)

/-- The mask keeps a key position no later than the query's. -/
theorem mask_at (i j : Fin 384) : k1_pay9 (ix2 i j) = BitVec.ofBool (decide ((j : ℕ) ≤ i)) := by
  pointwise [k1_pay9]
  exact WordCmp.cmpi_sle_ofNat (by omega) (by omega)
theorem scoreV_at (q k : FVec Ideal S384x128 .bf16) (i j : Fin 384) :
    scoreV k1_pay9 q k (ix2 i j) = Layer.score (fun i d => q (ix2 i d)) (fun i d => k (ix2 i d)) i j := by
  pointwise [scoreV]
  rw [mask_at]
  unfold Layer.score
  by_cases h : (j : ℕ) ≤ i <;> simp [h, Scalar.select]
theorem expwV_at (s : FVec Ideal S384x384 .f32) (i j : Fin 384) :
    expwV s (ix2 i j) = Layer.expw (fun j => s (ix2 i j)) j := by
  pointwise [expwV, Layer.expw]
theorem mixV_at (e : FVec Ideal S384x384 .f32) (v : FVec Ideal S384x128 .bf16) (i : Fin 384) (d : Fin 128) :
    mixV e v (ix2 i d) = ∑ j, Ideal.div (e (ix2 i j)) (∑ x, e (ix2 i x)) * v (ix2 j d) := by
  pointwise [mixV]
theorem attnV_at (q k v : FVec Ideal S384x128 .bf16) (i : Fin 384) (d : Fin 128) :
    mixV (expwV (scoreV k1_pay9 q k)) v (ix2 i d)
      = Layer.attn (fun i d => q (ix2 i d)) (fun i d => k (ix2 i d)) (fun i d => v (ix2 i d)) i d := by
  rw [mixV_at]
  simp only [expwV_at, scoreV_at]
  rfl

/-- One tile from what its queries, keys and values are. -/
theorem tile_at {q k v : FVec Ideal S384x128 .bf16} {Q K W : Fin 384 → Fin 128 → EReal} (hq : ∀ i d, q (ix2 i d) = Q i d)
    (hk : ∀ i d, k (ix2 i d) = K i d) (hv : ∀ i d, v (ix2 i d) = W i d) (i : Fin 384) (d : Fin 128) :
    mixV (expwV (scoreV k1_pay9 q k)) v (ix2 i d) = Layer.attn Q K W i d :=
  (attnV_at q k v i d).trans (Layer.attn_congr hq hk hv rfl rfl)

/-! The four tiles: the two halves of the rows against the two halves of the columns. -/

theorem lo_at (v : FVec Ideal S768x128 .bf16) (r : Fin 384) (d : Fin 128) :
    extractStridedSlice S384x128 ![0, 0] v slices_S768x128_o0_0_S384x128 (ix2 r d) = v (ix2 ⟨r, by omega⟩ d) := by
  pointwise
theorem hi_at (v : FVec Ideal S768x128 .bf16) (r : Fin 384) (d : Fin 128) :
    extractStridedSlice S384x128 ![384, 0] v slices_S768x128_o384_0_S384x128 (ix2 r d) = v (ix2 ⟨384 + r, by omega⟩ d) := by
  pointwise
theorem cos_at (c : FVec Ideal S768x128 .f32) (r : Fin 768) (d : Fin 128) : k1_pay7 (F := Ideal) c (ix2 r d) = c (ix2 r d) := by
  pointwise [k1_pay7]
theorem sin_at (c : FVec Ideal S768x128 .f32) (r : Fin 768) (d : Fin 128) : k1_pay8 (F := Ideal) c (ix2 r d) = c (ix2 r d) := by
  pointwise [k1_pay8]
theorem val0_at (v : FVec Ideal S768x256 .bf16) (r : Fin 768) (d : Fin 128) : k1_pay12 (F := Ideal) v (ix2 r d) = v (ix2 r ⟨d, by omega⟩) := by
  pointwise [k1_pay12]
theorem val1_at (v : FVec Ideal S768x256 .bf16) (r : Fin 768) (d : Fin 128) : k1_pay18 (F := Ideal) v (ix2 r d) = v (ix2 r ⟨128 + d, by omega⟩) := by
  pointwise [k1_pay18]
theorem rope0_at (q : FVec Ideal S768x256 .f32) (c s : FVec Ideal S768x128 .f32) (r : Fin 768) (d : Fin 128) :
    k1_pay10 (F := Ideal) q c s (ix2 r d)
      = Layer.ropeK (fun d => q (ix2 r ⟨d, by omega⟩)) (fun d => c (ix2 r d)) (fun d => s (ix2 r d)) d := by
  pointwise [k1_pay10, Layer.ropeK]
theorem rope1_at (q : FVec Ideal S768x256 .f32) (c s : FVec Ideal S768x128 .f32) (r : Fin 768) (d : Fin 128) :
    k1_pay16 (F := Ideal) q c s (ix2 r d)
      = Layer.ropeK (fun d => q (ix2 r ⟨128 + d, by omega⟩)) (fun d => c (ix2 r d)) (fun d => s (ix2 r d)) d := by
  pointwise [k1_pay16, Layer.ropeK]

section
variable (q k : FVec Ideal S768x256 .f32) (v : FVec Ideal S768x256 .bf16) (c s : FVec Ideal S768x128 .f32) (i : Fin 384) (d : Fin 128)

theorem tile00 : k1_pay13 (F := Ideal) q k v c s k1_pay9 (ix2 i d) = Layer.attn
    (fun i => Layer.ropeK (fun d => q (ix2 ⟨i, by omega⟩ ⟨d, by omega⟩)) (fun d => c (ix2 ⟨i, by omega⟩ d)) (fun d => s (ix2 ⟨i, by omega⟩ d)))
    (fun i => Layer.ropeK (fun d => k (ix2 ⟨i, by omega⟩ ⟨d, by omega⟩)) (fun d => c (ix2 ⟨i, by omega⟩ d)) (fun d => s (ix2 ⟨i, by omega⟩ d)))
    (fun i d => v (ix2 ⟨i, by omega⟩ ⟨d, by omega⟩)) i d :=
  tile_at (fun _ _ => (lo_at _ _ _).trans (rope0_at q c s _ _)) (fun _ _ => (lo_at _ _ _).trans (rope0_at k c s _ _))
    (fun _ _ => (lo_at _ _ _).trans (val0_at v _ _)) i d
theorem tile10 : k1_pay15 (F := Ideal) (k1_pay12 v) (k1_pay14 q k c s k1_pay9) (ix2 i d) = Layer.attn
    (fun i => Layer.ropeK (fun d => q (ix2 ⟨384 + i, by omega⟩ ⟨d, by omega⟩)) (fun d => c (ix2 ⟨384 + i, by omega⟩ d)) (fun d => s (ix2 ⟨384 + i, by omega⟩ d)))
    (fun i => Layer.ropeK (fun d => k (ix2 ⟨384 + i, by omega⟩ ⟨d, by omega⟩)) (fun d => c (ix2 ⟨384 + i, by omega⟩ d)) (fun d => s (ix2 ⟨384 + i, by omega⟩ d)))
    (fun i d => v (ix2 ⟨384 + i, by omega⟩ ⟨d, by omega⟩)) i d :=
  tile_at (fun _ _ => (hi_at _ _ _).trans (rope0_at q c s _ _)) (fun _ _ => (hi_at _ _ _).trans (rope0_at k c s _ _))
    (fun _ _ => (hi_at _ _ _).trans (val0_at v _ _)) i d
theorem tile01 : k1_pay19 (F := Ideal) q k v c s k1_pay9 (ix2 i d) = Layer.attn
    (fun i => Layer.ropeK (fun d => q (ix2 ⟨i, by omega⟩ ⟨128 + d, by omega⟩)) (fun d => c (ix2 ⟨i, by omega⟩ d)) (fun d => s (ix2 ⟨i, by omega⟩ d)))
    (fun i => Layer.ropeK (fun d => k (ix2 ⟨i, by omega⟩ ⟨128 + d, by omega⟩)) (fun d => c (ix2 ⟨i, by omega⟩ d)) (fun d => s (ix2 ⟨i, by omega⟩ d)))
    (fun i d => v (ix2 ⟨i, by omega⟩ ⟨128 + d, by omega⟩)) i d :=
  tile_at (fun _ _ => (lo_at _ _ _).trans (rope1_at q c s _ _)) (fun _ _ => (lo_at _ _ _).trans (rope1_at k c s _ _))
    (fun _ _ => (lo_at _ _ _).trans (val1_at v _ _)) i d
theorem tile11 : k1_pay1 (F := Ideal) k1_pay9 (k1_pay18 v) (k1_pay20 q c s) (k1_pay21 k c s) (constant S384x384 .f32 0x00000000#32) (ix2 i d) = Layer.attn
    (fun i => Layer.ropeK (fun d => q (ix2 ⟨384 + i, by omega⟩ ⟨128 + d, by omega⟩)) (fun d => c (ix2 ⟨384 + i, by omega⟩ d)) (fun d => s (ix2 ⟨384 + i, by omega⟩ d)))
    (fun i => Layer.ropeK (fun d => k (ix2 ⟨384 + i, by omega⟩ ⟨128 + d, by omega⟩)) (fun d => c (ix2 ⟨384 + i, by omega⟩ d)) (fun d => s (ix2 ⟨384 + i, by omega⟩ d)))
    (fun i d => v (ix2 ⟨384 + i, by omega⟩ ⟨128 + d, by omega⟩)) i d :=
  tile_at (fun _ _ => (hi_at _ _ _).trans (rope1_at q c s _ _)) (fun _ _ => (hi_at _ _ _).trans (rope1_at k c s _ _))
    (fun _ _ => (hi_at _ _ _).trans (val1_at v _ _)) i d
end

/-- Column `d` of the head that column `o` of a block of two heads belongs to. -/
def colIn (o : Fin 256) (d : Fin 128) : Fin 256 := ⟨128 * (o / 128) + d, by omega⟩

/-- A block of the result from the blocks of queries, keys and values. -/
def block (q k : FVec Ideal S768x256 .f32) (v : FVec Ideal S768x256 .bf16) (c s : FVec Ideal S768x128 .f32) (r : Fin 768) (o : Fin 256) : EReal :=
  Layer.attn
    (fun i => Layer.ropeK (fun d => q (ix2 (Layer.rowOf r i) (colIn o d))) (fun d => c (ix2 (Layer.rowOf r i) d)) (fun d => s (ix2 (Layer.rowOf r i) d)))
    (fun i => Layer.ropeK (fun d => k (ix2 (Layer.rowOf r i) (colIn o d))) (fun d => c (ix2 (Layer.rowOf r i) d)) (fun d => s (ix2 (Layer.rowOf r i) d)))
    (fun i d => v (ix2 (Layer.rowOf r i) (colIn o d))) ⟨r % 384, Nat.mod_lt _ (by decide)⟩ ⟨o % 128, Nat.mod_lt _ (by decide)⟩

/-- A tile whose rows are `R` and columns `C` is that part of the block. -/
theorem block_eq (q k : FVec Ideal S768x256 .f32) (v : FVec Ideal S768x256 .bf16) (c s : FVec Ideal S768x128 .f32) {r : Fin 768} {o : Fin 256}
    {R : Fin 384 → Fin 768} {C : Fin 128 → Fin 256} {i : Fin 384} {d : Fin 128} (hR : ∀ i, (R i : ℕ) = 384 * (r / 384) + i)
    (hC : ∀ d, (C d : ℕ) = 128 * (o / 128) + d) (hi : (i : ℕ) = r % 384) (hd : (d : ℕ) = o % 128) :
    Layer.attn (fun i => Layer.ropeK (fun d => q (ix2 (R i) (C d))) (fun d => c (ix2 (R i) d)) (fun d => s (ix2 (R i) d)))
      (fun i => Layer.ropeK (fun d => k (ix2 (R i) (C d))) (fun d => c (ix2 (R i) d)) (fun d => s (ix2 (R i) d)))
      (fun i d => v (ix2 (R i) (C d))) i d = block q k v c s r o := by
  obtain rfl : R = Layer.rowOf r := funext fun i => Fin.ext (hR i)
  obtain rfl : C = colIn o := funext fun d => Fin.ext (hC d)
  obtain rfl : i = ⟨r % 384, Nat.mod_lt _ (by decide)⟩ := Fin.ext hi
  obtain rfl : d = ⟨o % 128, Nat.mod_lt _ (by decide)⟩ := Fin.ext hd
  rfl

section
variable (a : FVec Ideal S768x7168 .fp8e4m3) (s : FVec Ideal S768x1 .f32) (w : FVec Ideal S7168x256 .fp8e4m3) (ws : FVec Ideal S1x256 .f32)
  (r : Fin 768) (d : Fin 256)
theorem q_at : k1_pay4 (F := Ideal) a s w ws (ix2 r d)
    = Layer.lin (fun k => a (ix2 r k)) (s (ix2 r 0)) (fun k => w (ix2 k d)) (ws (ix2 0 d)) := by
  pointwise [k1_pay4, k1_pay2, k1_pay3, Layer.lin]
theorem k_at : k1_pay5 (F := Ideal) a s w ws (ix2 r d)
    = Layer.lin (fun k => a (ix2 r k)) (s (ix2 r 0)) (fun k => w (ix2 k d)) (ws (ix2 0 d)) := by
  pointwise [k1_pay5, k1_pay2, k1_pay3, Layer.lin]
theorem v_at : k1_pay6 (F := Ideal) a s w ws (ix2 r d)
    = Layer.lin (fun k => a (ix2 r k)) (s (ix2 r 0)) (fun k => w (ix2 k d)) (ws (ix2 0 d)) := by
  pointwise [k1_pay6, k1_pay2, k1_pay3, Layer.lin]
end

variable (V : (c : Dev nD) → (b : Ref sig .tc) → Buf (Elt Ideal) ((c : Thread nD τ).loc b))

theorem idx1 : ∀ t : Fin cfg1.N, win1_0.index t = ![0, 0] ∧ win1_1.index t = ![0, 0] ∧ win1_2.index t = ![0, t.val] ∧ win1_3.index t = ![0, t.val]
    ∧ win1_4.index t = ![0, t.val] ∧ win1_5.index t = ![0, t.val] ∧ win1_6.index t = ![0, t.val] ∧ win1_7.index t = ![0, t.val]
    ∧ win1_8.index t = ![0, 0] ∧ win1_9.index t = ![0, 0] ∧ win1_10.index t = ![0, t.val] := (by decide +kernel : ∀ t : Fin grid1.N, _)

/-- The linear map of one projection, from the codes and scales of the normalised input. -/
abbrev lin1 (c : Dev nD) (w : Fin 7168 → Fin 2048 → EReal) (ws : Fin 2048 → EReal) (r : Fin 768) (o : Fin 2048) : EReal :=
  Layer.lin (fun k => V c main_v29_0 (ix2 r k)) (V c main_v29_1 (ix2 r 0)) (fun k => w k o) (ws o)

set_option maxHeartbeats 2000000 in
/-- What the call leaves in its result. -/
theorem attn1 (c : Dev nD) : (dat1 V c).arrAt 10 cfg1.N = fun i => Layer.attnOf
    (fun r v => Layer.ropeK v (fun d => V c main_v24 (ix2 r d)) (fun d => V c main_v26 (ix2 r d)))
    (lin1 V c (fun k o => V c main_arg3 (ix2 k o)) (fun o => V c main_v30 (ix2 0 o)))
    (lin1 V c (fun k o => V c main_arg5 (ix2 k o)) (fun o => V c main_v31 (ix2 0 o)))
    (lin1 V c (fun k o => V c main_arg7 (ix2 k o)) (fun o => V c main_v32 (ix2 0 o))) (i 0) (i 1) := by
  refine (dat1 V c).arrAt_eq_of_covers 10 _ (by decide +kernel) fun t _ y => ?_
  refine Eq.trans (b := block (k1_pay4 (iblk1 V c 0 t) (iblk1 V c 1 t) (iblk1 V c 2 t) (iblk1 V c 5 t))
    (k1_pay5 (iblk1 V c 0 t) (iblk1 V c 1 t) (iblk1 V c 3 t) (iblk1 V c 6 t))
    (k1_pay6 (iblk1 V c 0 t) (iblk1 V c 1 t) (iblk1 V c 4 t) (iblk1 V c 7 t)) (k1_pay7 (iblk1 V c 8 t)) (k1_pay8 (iblk1 V c 9 t)) (y 0) (y 1)) ?_ ?_
  · blk_simp; rw [after1_10]
    canon_tiles x h
    all_goals unfold k1_pay22 k1_pay23 k1_pay24 k1_pay25 k1_pay26 k1_pay27
    all_goals frame_out
    all_goals idx_vars x
    · exact (tile11 _ _ _ _ _ _ _).trans (block_eq _ _ _ _ _ (fun _ => by simp at *; omega) (fun _ => by simp at *; omega) (by simp at *; omega) (by simp at *; omega))
    · exact (tile01 _ _ _ _ _ _ _).trans (block_eq _ _ _ _ _ (fun _ => by simp at *; omega) (fun _ => by simp at *; omega) (by simp at *; omega) (by simp at *; omega))
    · exact (tile10 _ _ _ _ _ _ _).trans (block_eq _ _ _ _ _ (fun _ => by simp at *; omega) (fun _ => by simp at *; omega) (by simp at *; omega) (by simp at *; omega))
    · exact (tile00 _ _ _ _ _ _ _).trans (block_eq _ _ _ _ _ (fun _ => by simp at *; omega) (fun _ => by simp at *; omega) (by simp at *; omega) (by simp at *; omega))
  · blk_simp
    idx_vars y
    refine Layer.attn_congr (fun i d => Layer.ropeK_congr (fun d => (q_at _ _ _ _ _ _).trans (Layer.lin_congr (fun k => ?_) ?_ (fun k => ?_) ?_))
        (fun d => (cos_at _ _ _).trans ?_) (fun d => (sin_at _ _ _).trans ?_) d)
      (fun i d => Layer.ropeK_congr (fun d => (k_at _ _ _ _ _ _).trans (Layer.lin_congr (fun k => ?_) ?_ (fun k => ?_) ?_))
        (fun d => (cos_at _ _ _).trans ?_) (fun d => (sin_at _ _ _).trans ?_) d)
      (fun i d => (v_at _ _ _ _ _ _).trans (Layer.lin_congr (fun k => ?_) ?_ (fun k => ?_) ?_)) (Fin.ext ?_) (Fin.ext ?_)
    iterate 16
      focus blk_ext [iblk1, idx1 t, Layer.rowOf, Layer.colOf, colIn]
    · blk_simp [idx1 t]
    · blk_simp [idx1 t]; dsimp only; omega
end Cert.KernelIdeal.Call
-- ==== Proof.Call.Call2.lean ====
module
public import proofs.«01_k».proof.Proof.Gen.KernelIdeal.Frame
public import proofs.«01_k».proof.Proof.Call.Quantise
@[expose] public section
set_option maxRecDepth 16384
noncomputable section
open Idealize.ShloMosaic Idealize.ShloMosaic.TcCoe Idealize.SL.Sem
open Idealize.ShloMosaic.Pipeline (Dat)

/-! The third call: it quantises each row of the attention. -/
namespace Cert.KernelIdeal.Call
open Cert.KernelIdeal Cert.KernelIdeal.Gen

theorem v2_at (x : FVec Ideal S128x2048 .f32) (r : Fin 128) (k : Fin 2048) : k2_pay1 (F := Ideal) x (ix2 r k) = x (ix2 r k) := by
  pointwise [k2_pay1]
theorem t2_at (x : FVec Ideal S128x2048 .f32) (r : Fin 128) : k2_pay2 (F := Ideal) x (ix2 r 0) = Layer.qT fun k => x (ix2 r k) :=
  (tV_at (k2_pay1 (F := Ideal) x) _ _ r).trans (congrArg Layer.qT (funext (v2_at x r)))
theorem e2_of (t : FVec Ideal S128x1 .f32) (n : IVec S128x1 32) :
    k2_pay4 (F := Ideal) t n 4#32 = expV (stepV t 1#32 (stepV t 2#32 (stepV t 4#32 n))) := rfl
theorem e2_eq (x : FVec Ideal S128x2048 .f32) : k2_pay4 (F := Ideal) (k2_pay2 (F := Ideal) x) (k2_pay3 (F := Ideal) x) 4#32 = expV (fieldV (k2_pay2 (F := Ideal) x)) :=
  e2_of (k2_pay2 (F := Ideal) x) (k2_pay3 (F := Ideal) x)
/-- One code of a block. -/
theorem code2_at (x : FVec Ideal S128x2048 .f32) (r : Fin 128) (k : Fin 2048) :
    k2_pay6 (F := Ideal) (k2_pay1 (F := Ideal) x) (k2_pay2 (F := Ideal) x) (k2_pay3 (F := Ideal) x) 4#32 (ix2 r k)
      = Layer.qCode (fun k => x (ix2 r k)) k :=
  (cV_at _ _ _ _ r k).trans (clip_eq (n := 2047) (e2_eq x) (t2_at x r) (v2_at x r k))
/-- One scale of a block. -/
theorem scale2_at (x : FVec Ideal S128x2048 .f32) (r : Fin 128) (z : Fin 1) :
    k2_pay5 (F := Ideal) (k2_pay2 (F := Ideal) x) (k2_pay3 (F := Ideal) x) 4#32 (ix2 r z) = Layer.qS fun k => x (ix2 r k) :=
  scale_eq (n := 2047) (e2_eq x) (t2_at x r) z

variable (V : (c : Dev nD) → (b : Ref sig .tc) → Buf (Elt Ideal) ((c : Thread nD τ).loc b))

theorem idx2 : ∀ t : Fin cfg2.N, win2_0.index t = ![t.val, 0] ∧ win2_1.index t = ![t.val, 0] ∧ win2_2.index t = ![t.val, 0] :=
  (by decide +kernel : ∀ t : Fin grid2.N, _)

set_option maxHeartbeats 1000000 in
/-- What the call leaves in its codes. -/
theorem codes2 (c : Dev nD) : (dat2 V c).arrAt 1 cfg2.N = fun i => Layer.qCode (fun k => V c main_v33 (ix2 (i 0) k)) (i 1) := by
  refine (dat2 V c).arrAt_eq_of_covers 1 _ (by decide +kernel) fun t _ y => ?_
  blk_simp; rw [after2_1]; frame_out; unfold k2_pay7 k2_pay8; frame_out
  idx_vars y
  refine (code2_at _ _ _).trans (Layer.qCode_congr (fun k => ?_) ?_)
  · blk_ext [iblk2, idx2 t]
  · apply Fin.ext; blk_simp [idx2 t]

set_option maxHeartbeats 1000000 in
/-- What the call leaves in its scales. -/
theorem scales2 (c : Dev nD) : (dat2 V c).arrAt 2 cfg2.N = fun i => Layer.qS (fun k => V c main_v33 (ix2 (i 0) k)) := by
  refine (dat2 V c).arrAt_eq_of_covers 2 _ (by decide +kernel) fun t _ y => ?_
  blk_simp; rw [after2_2]; frame_out; unfold k2_pay7 k2_pay8; frame_out
  idx_vars y
  refine (scale2_at _ _ _).trans (Layer.qS_congr (fun k => ?_))
  blk_ext [iblk2, idx2 t]

end Cert.KernelIdeal.Call
-- ==== Proof.Call.Call3.lean ====
module
public import proofs.«01_k».proof.Proof.Gen.KernelIdeal.Frame
public import proofs.«01_k».proof.Proof.Layer.Math
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

/-! The fourth call: the output projection of the attention added to the input. -/
namespace Cert.KernelIdeal.Call
open Cert.KernelIdeal Cert.KernelIdeal.Gen

/-- One entry of a block. -/
theorem res3_at (a : FVec Ideal S768x2048 .fp8e4m3) (w : FVec Ideal S2048x512 .fp8e4m3) (s : FVec Ideal S768x1 .f32)
    (ws : FVec Ideal S1x512 .f32) (x : FVec Ideal S768x512 .bf16) (r : Fin 768) (k : Fin 512) :
    k3_pay1 (F := Ideal) a w s ws x (ix2 r k)
      = Layer.res (x (ix2 r k)) (fun k => a (ix2 r k)) (s (ix2 r 0)) (fun d => w (ix2 d k)) (ws (ix2 0 k)) := by
  pointwise [k3_pay1, Layer.res, Layer.lin]

variable (V : (c : Dev nD) → (b : Ref sig .tc) → Buf (Elt Ideal) ((c : Thread nD τ).loc b))

theorem idx3 : ∀ t : Fin cfg3.N, win3_0.index t = ![0, 0] ∧ win3_1.index t = ![0, 0] ∧ win3_2.index t = ![0, t.val] ∧ win3_3.index t = ![0, t.val]
    ∧ win3_4.index t = ![0, t.val] ∧ win3_5.index t = ![0, t.val] := (by decide +kernel : ∀ t : Fin grid3.N, _)

set_option maxHeartbeats 1000000 in
/-- What the call leaves in its result. -/
theorem res3 (c : Dev nD) : (dat3 V c).arrAt 5 cfg3.N = fun i => Layer.res (V c main_v27 i) (fun k => V c main_v34_0 (ix2 (i 0) k))
    (V c main_v34_1 (ix2 (i 0) 0)) (fun d => V c main_arg9 (ix2 d (i 1))) (V c main_v35 (ix2 0 (i 1))) := by
  refine (dat3 V c).arrAt_eq_of_covers 5 _ (by decide +kernel) fun t _ y => ?_
  blk_simp; rw [after3_5]; frame_out
  idx_vars y
  refine (res3_at _ _ _ _ _ _ _).trans (Layer.res_congr ?_ (fun k => ?_) ?_ (fun k => ?_) ?_)
  · blk_ext [iblk3, idx3 t]
  · blk_ext [iblk3, idx3 t]
  · blk_ext [iblk3, idx3 t]
  · blk_ext [iblk3, idx3 t]
  · blk_ext [iblk3, idx3 t]

end Cert.KernelIdeal.Call
-- ==== Proof.Call.Call4.lean ====
module
public import proofs.«01_k».proof.Proof.Gen.KernelIdeal.Frame
public import proofs.«01_k».proof.Proof.Call.Quantise
@[expose] public section
set_option maxRecDepth 16384
noncomputable section
open Idealize.ShloMosaic Idealize.ShloMosaic.TcCoe Idealize.SL.Sem
open Idealize.ShloMosaic.Pipeline (Dat)

/-! The fifth call: it normalises each row after the attention residual and quantises it. -/
namespace Cert.KernelIdeal.Call
open Cert.KernelIdeal Cert.KernelIdeal.Gen

theorem v4_at (x : FVec Ideal S128x7168 .f32) (g : FVec Ideal S1x7168 .bf16) (r : Fin 128) (k : Fin 7168) :
    k4_pay3 (F := Ideal) x g (ix2 r k) = Layer.rms (fun k => x (ix2 r k)) (fun k => g (ix2 0 k)) k := by
  pointwise [k4_pay3, Layer.rms]
theorem t4_at (x : FVec Ideal S128x7168 .f32) (g : FVec Ideal S1x7168 .bf16) (r : Fin 128) :
    k4_pay4 (F := Ideal) x g (ix2 r 0) = Layer.qT (Layer.rms (fun k => x (ix2 r k)) (fun k => g (ix2 0 k))) :=
  (tV_at (k4_pay3 (F := Ideal) x g) _ _ r).trans (congrArg Layer.qT (funext (v4_at x g r)))
theorem e4_of (t : FVec Ideal S128x1 .f32) (n : IVec S128x1 32) :
    k4_pay8 (F := Ideal) t n (addi n (broadcast S128x1 32#32))
        (cmpf .oge t (bitcastToFloat .f32 (shli (addi n (broadcast S128x1 32#32)) (broadcast S128x1 23#32))))
      = expV (stepV t 1#32 (stepV t 2#32 (stepV t 4#32 (stepV t 8#32 (stepV t 16#32 (stepV t 32#32 n)))))) := rfl
theorem e4_eq (x : FVec Ideal S128x7168 .f32) (g : FVec Ideal S1x7168 .bf16) :
    k4_pay8 (F := Ideal) (k4_pay4 (F := Ideal) x g) (k4_pay5 (F := Ideal) x g) (k4_pay6 (F := Ideal) x g) (k4_pay7 (F := Ideal) x g)
      = expV (fieldV (k4_pay4 (F := Ideal) x g)) :=
  e4_of (k4_pay4 (F := Ideal) x g) (k4_pay5 (F := Ideal) x g)
/-- One code of a block. -/
theorem code4_at (x : FVec Ideal S128x7168 .f32) (g : FVec Ideal S1x7168 .bf16) (r : Fin 128) (k : Fin 7168) :
    k4_pay2 (F := Ideal) (k4_pay3 (F := Ideal) x g) (k4_pay8 (F := Ideal) (k4_pay4 (F := Ideal) x g) (k4_pay5 (F := Ideal) x g) (k4_pay6 (F := Ideal) x g) (k4_pay7 (F := Ideal) x g)) (ix2 r k) = Layer.qCode (Layer.rms (fun k => x (ix2 r k)) (fun k => g (ix2 0 k))) k :=
  (cV_at _ _ _ _ r k).trans (clip_eq (n := 7167) (e4_eq x g) (t4_at x g r) (v4_at x g r k))
/-- One scale of a block. -/
theorem scale4_at (x : FVec Ideal S128x7168 .f32) (g : FVec Ideal S1x7168 .bf16) (r : Fin 128) (z : Fin 1) :
    k4_pay1 (F := Ideal) (k4_pay9 (F := Ideal) (k4_pay4 (F := Ideal) x g) (k4_pay5 (F := Ideal) x g) (k4_pay6 (F := Ideal) x g) (k4_pay7 (F := Ideal) x g)) k4_pay10 (ix2 r z) = Layer.qS (Layer.rms (fun k => x (ix2 r k)) (fun k => g (ix2 0 k))) :=
  scale_eq (n := 7167) (e4_eq x g) (t4_at x g r) z

variable (V : (c : Dev nD) → (b : Ref sig .tc) → Buf (Elt Ideal) ((c : Thread nD τ).loc b))

theorem idx4 : ∀ t : Fin cfg4.N, win4_0.index t = ![t.val, 0] ∧ win4_1.index t = ![0, 0] ∧ win4_2.index t = ![t.val, 0]
    ∧ win4_3.index t = ![t.val, 0] := (by decide +kernel : ∀ t : Fin grid4.N, _)

set_option maxHeartbeats 1000000 in
/-- What the call leaves in its codes. -/
theorem codes4 (c : Dev nD) : (dat4 V c).arrAt 2 cfg4.N = fun i => Layer.qCode (Layer.rms (fun k => V c main_v36 (ix2 (i 0) k)) (fun k => V c main_v37 (ix2 0 k))) (i 1) := by
  refine (dat4 V c).arrAt_eq_of_covers 2 _ (by decide +kernel) fun t _ y => ?_
  blk_simp; rw [after4_2]; frame_out; unfold k4_pay11 k4_pay12 k4_pay13 k4_pay14; frame_out
  idx_vars y
  refine (code4_at _ _ _ _).trans (Layer.qCode_congr (fun k => Layer.rms_congr (fun k => ?_) (fun k => ?_) _) ?_)
  · blk_ext [iblk4, idx4 t]
  · blk_ext [iblk4, idx4 t]
  · apply Fin.ext; blk_simp [idx4 t]

set_option maxHeartbeats 1000000 in
/-- What the call leaves in its scales. -/
theorem scales4 (c : Dev nD) : (dat4 V c).arrAt 3 cfg4.N = fun i => Layer.qS (Layer.rms (fun k => V c main_v36 (ix2 (i 0) k)) (fun k => V c main_v37 (ix2 0 k))) := by
  refine (dat4 V c).arrAt_eq_of_covers 3 _ (by decide +kernel) fun t _ y => ?_
  blk_simp; rw [after4_3]; frame_out; unfold k4_pay11 k4_pay12 k4_pay13 k4_pay14; frame_out
  idx_vars y
  refine (scale4_at _ _ _ _).trans (Layer.qS_congr (fun k => Layer.rms_congr (fun k => ?_) (fun k => ?_) _))
  · blk_ext [iblk4, idx4 t]
  · blk_ext [iblk4, idx4 t]

end Cert.KernelIdeal.Call
-- ==== Proof.Call.Call5.lean ====
module
public import proofs.«01_k».proof.Proof.Gen.KernelIdeal.Frame
public import proofs.«01_k».proof.Proof.Layer.Math
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

/-! The sixth call: the gated product of the two up projections. -/
namespace Cert.KernelIdeal.Call
open Cert.KernelIdeal Cert.KernelIdeal.Gen

/-- One entry of a block. -/
theorem glu5_at (a : FVec Ideal S768x7168 .fp8e4m3) (s : FVec Ideal S768x1 .f32) (w u : FVec Ideal S7168x256 .fp8e4m3)
    (ws us : FVec Ideal S1x256 .f32) (r : Fin 768) (k : Fin 256) :
    k5_pay1 (F := Ideal) a s w ws u us (ix2 r k)
      = Layer.glu (Layer.lin (fun k => a (ix2 r k)) (s (ix2 r 0)) (fun d => w (ix2 d k)) (ws (ix2 0 k)))
          (Layer.lin (fun k => a (ix2 r k)) (s (ix2 r 0)) (fun d => u (ix2 d k)) (us (ix2 0 k))) := by
  pointwise [k5_pay1, Layer.glu, Layer.lin]

variable (V : (c : Dev nD) → (b : Ref sig .tc) → Buf (Elt Ideal) ((c : Thread nD τ).loc b))

theorem idx5 : ∀ t : Fin cfg5.N, win5_0.index t = ![0, 0] ∧ win5_1.index t = ![0, 0] ∧ win5_2.index t = ![0, t.val] ∧ win5_3.index t = ![0, t.val]
    ∧ win5_4.index t = ![0, t.val] ∧ win5_5.index t = ![0, t.val] ∧ win5_6.index t = ![0, t.val] := (by decide +kernel : ∀ t : Fin grid5.N, _)

set_option maxHeartbeats 1000000 in
/-- What the call leaves in its result. -/
theorem glu5 (c : Dev nD) : (dat5 V c).arrAt 6 cfg5.N = fun i => Layer.glu
    (Layer.lin (fun k => V c main_v38_0 (ix2 (i 0) k)) (V c main_v38_1 (ix2 (i 0) 0)) (fun d => V c main_arg12 (ix2 d (i 1))) (V c main_v39 (ix2 0 (i 1))))
    (Layer.lin (fun k => V c main_v38_0 (ix2 (i 0) k)) (V c main_v38_1 (ix2 (i 0) 0)) (fun d => V c main_arg14 (ix2 d (i 1))) (V c main_v40 (ix2 0 (i 1)))) := by
  refine (dat5 V c).arrAt_eq_of_covers 6 _ (by decide +kernel) fun t _ y => ?_
  blk_simp; rw [after5_6]; frame_out
  idx_vars y
  refine (glu5_at _ _ _ _ _ _ _ _).trans (Layer.glu_congr (Layer.lin_congr (fun k => ?_) ?_ (fun k => ?_) ?_) (Layer.lin_congr (fun k => ?_) ?_ (fun k => ?_) ?_))
  · blk_ext [iblk5, idx5 t]
  · blk_ext [iblk5, idx5 t]
  · blk_ext [iblk5, idx5 t]
  · blk_ext [iblk5, idx5 t]
  · blk_ext [iblk5, idx5 t]
  · blk_ext [iblk5, idx5 t]
  · blk_ext [iblk5, idx5 t]
  · blk_ext [iblk5, idx5 t]

end Cert.KernelIdeal.Call
-- ==== Proof.Call.Call6.lean ====
module
public import proofs.«01_k».proof.Proof.Gen.KernelIdeal.Frame
public import proofs.«01_k».proof.Proof.Call.Quantise
@[expose] public section
set_option maxRecDepth 16384
noncomputable section
open Idealize.ShloMosaic Idealize.ShloMosaic.TcCoe Idealize.SL.Sem
open Idealize.ShloMosaic.Pipeline (Dat)

/-! The seventh call: it quantises each row of the gated product. -/
namespace Cert.KernelIdeal.Call
open Cert.KernelIdeal Cert.KernelIdeal.Gen

theorem v6_at (x : FVec Ideal S128x2304 .f32) (r : Fin 128) (k : Fin 2304) : k6_pay1 (F := Ideal) x (ix2 r k) = x (ix2 r k) := by
  pointwise [k6_pay1]
theorem t6_at (x : FVec Ideal S128x2304 .f32) (r : Fin 128) : k6_pay2 (F := Ideal) x (ix2 r 0) = Layer.qT fun k => x (ix2 r k) :=
  (tV_at (k6_pay1 (F := Ideal) x) _ _ r).trans (congrArg Layer.qT (funext (v6_at x r)))
theorem e6_of (t : FVec Ideal S128x1 .f32) (n : IVec S128x1 32) :
    k6_pay4 (F := Ideal) t n 4#32 = expV (stepV t 1#32 (stepV t 2#32 (stepV t 4#32 n))) := rfl
theorem e6_eq (x : FVec Ideal S128x2304 .f32) : k6_pay4 (F := Ideal) (k6_pay2 (F := Ideal) x) (k6_pay3 (F := Ideal) x) 4#32 = expV (fieldV (k6_pay2 (F := Ideal) x)) :=
  e6_of (k6_pay2 (F := Ideal) x) (k6_pay3 (F := Ideal) x)
/-- One code of a block. -/
theorem code6_at (x : FVec Ideal S128x2304 .f32) (r : Fin 128) (k : Fin 2304) :
    k6_pay6 (F := Ideal) (k6_pay1 (F := Ideal) x) (k6_pay2 (F := Ideal) x) (k6_pay3 (F := Ideal) x) 4#32 (ix2 r k)
      = Layer.qCode (fun k => x (ix2 r k)) k :=
  (cV_at _ _ _ _ r k).trans (clip_eq (n := 2303) (e6_eq x) (t6_at x r) (v6_at x r k))
/-- One scale of a block. -/
theorem scale6_at (x : FVec Ideal S128x2304 .f32) (r : Fin 128) (z : Fin 1) :
    k6_pay5 (F := Ideal) (k6_pay2 (F := Ideal) x) (k6_pay3 (F := Ideal) x) 4#32 (ix2 r z) = Layer.qS fun k => x (ix2 r k) :=
  scale_eq (n := 2303) (e6_eq x) (t6_at x r) z

variable (V : (c : Dev nD) → (b : Ref sig .tc) → Buf (Elt Ideal) ((c : Thread nD τ).loc b))

theorem idx6 : ∀ t : Fin cfg6.N, win6_0.index t = ![t.val, 0] ∧ win6_1.index t = ![t.val, 0] ∧ win6_2.index t = ![t.val, 0] :=
  (by decide +kernel : ∀ t : Fin grid6.N, _)

set_option maxHeartbeats 1000000 in
/-- What the call leaves in its codes. -/
theorem codes6 (c : Dev nD) : (dat6 V c).arrAt 1 cfg6.N = fun i => Layer.qCode (fun k => V c main_v41 (ix2 (i 0) k)) (i 1) := by
  refine (dat6 V c).arrAt_eq_of_covers 1 _ (by decide +kernel) fun t _ y => ?_
  blk_simp; rw [after6_1]; frame_out; unfold k6_pay7 k6_pay8; frame_out
  idx_vars y
  refine (code6_at _ _ _).trans (Layer.qCode_congr (fun k => ?_) ?_)
  · blk_ext [iblk6, idx6 t]
  · apply Fin.ext; blk_simp [idx6 t]

set_option maxHeartbeats 1000000 in
/-- What the call leaves in its scales. -/
theorem scales6 (c : Dev nD) : (dat6 V c).arrAt 2 cfg6.N = fun i => Layer.qS (fun k => V c main_v41 (ix2 (i 0) k)) := by
  refine (dat6 V c).arrAt_eq_of_covers 2 _ (by decide +kernel) fun t _ y => ?_
  blk_simp; rw [after6_2]; frame_out; unfold k6_pay7 k6_pay8; frame_out
  idx_vars y
  refine (scale6_at _ _ _).trans (Layer.qS_congr (fun k => ?_))
  blk_ext [iblk6, idx6 t]

end Cert.KernelIdeal.Call
-- ==== Proof.Call.Call7.lean ====
module
public import proofs.«01_k».proof.Proof.Gen.KernelIdeal.Frame
public import proofs.«01_k».proof.Proof.Layer.Math
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

/-! The eighth call: the down projection added to the residual. -/
namespace Cert.KernelIdeal.Call
open Cert.KernelIdeal Cert.KernelIdeal.Gen

/-- One entry of a block. -/
theorem res7_at (a : FVec Ideal S768x2304 .fp8e4m3) (w : FVec Ideal S2304x512 .fp8e4m3) (s : FVec Ideal S768x1 .f32)
    (ws : FVec Ideal S1x512 .f32) (x : FVec Ideal S768x512 .f32) (r : Fin 768) (k : Fin 512) :
    k7_pay1 (F := Ideal) a w s ws x (ix2 r k)
      = Layer.res (x (ix2 r k)) (fun k => a (ix2 r k)) (s (ix2 r 0)) (fun d => w (ix2 d k)) (ws (ix2 0 k)) := by
  pointwise [k7_pay1, Layer.res, Layer.lin]

variable (V : (c : Dev nD) → (b : Ref sig .tc) → Buf (Elt Ideal) ((c : Thread nD τ).loc b))

theorem idx7 : ∀ t : Fin cfg7.N, win7_0.index t = ![0, 0] ∧ win7_1.index t = ![0, 0] ∧ win7_2.index t = ![0, t.val] ∧ win7_3.index t = ![0, t.val]
    ∧ win7_4.index t = ![0, t.val] ∧ win7_5.index t = ![0, t.val] := (by decide +kernel : ∀ t : Fin grid7.N, _)

set_option maxHeartbeats 1000000 in
/-- What the call leaves in its result. -/
theorem res7 (c : Dev nD) : (dat7 V c).arrAt 5 cfg7.N = fun i => Layer.res (V c main_v36 i) (fun k => V c main_v42_0 (ix2 (i 0) k))
    (V c main_v42_1 (ix2 (i 0) 0)) (fun d => V c main_arg16 (ix2 d (i 1))) (V c main_v43 (ix2 0 (i 1))) := by
  refine (dat7 V c).arrAt_eq_of_covers 5 _ (by decide +kernel) fun t _ y => ?_
  blk_simp; rw [after7_5]; frame_out
  idx_vars y
  refine (res7_at _ _ _ _ _ _ _).trans (Layer.res_congr ?_ (fun k => ?_) ?_ (fun k => ?_) ?_)
  · blk_ext [iblk7, idx7 t]
  · blk_ext [iblk7, idx7 t]
  · blk_ext [iblk7, idx7 t]
  · blk_ext [iblk7, idx7 t]
  · blk_ext [iblk7, idx7 t]

end Cert.KernelIdeal.Call
-- ==== Proof.Layer.Chain.lean ====
/-
  The whole layer over its inputs, one row of 768 per token (two batch entries of 384 tokens), and the nine results. Both
  programs are read into these functions.
-/
module
public import proofs.«01_k».proof.Proof.Layer.Math
@[expose] public section
noncomputable section
open Idealize.ShloMosaic
namespace Layer

/-- The layer's inputs: the rows, the tables of the rotary encoding, the two norms' weights, and each projection's weights
and scales. -/
structure In where
  x : Fin 768 → Fin 7168 → EReal
  cos : Fin 768 → Fin 128 → EReal
  sin : Fin 768 → Fin 128 → EReal
  ga : Fin 7168 → EReal
  wq : Fin 7168 → Fin 2048 → EReal
  sq : Fin 2048 → EReal
  wk : Fin 7168 → Fin 2048 → EReal
  sk : Fin 2048 → EReal
  wv : Fin 7168 → Fin 2048 → EReal
  sv : Fin 2048 → EReal
  wo : Fin 2048 → Fin 7168 → EReal
  so : Fin 7168 → EReal
  gm : Fin 7168 → EReal
  wg : Fin 7168 → Fin 2304 → EReal
  sg : Fin 2304 → EReal
  wu : Fin 7168 → Fin 2304 → EReal
  su : Fin 2304 → EReal
  wd : Fin 2304 → Fin 7168 → EReal
  sd : Fin 7168 → EReal

/-- A row quantised, then projected. -/
def proj {n p : ℕ} (v : Fin n → EReal) (w : Fin n → Fin p → EReal) (ws : Fin p → EReal) (o : Fin p) : EReal :=
  lin (qCode v) (qS v) (fun k => w k o) (ws o)

namespace In
variable (I : In)
/-- The normalised input. -/
def xa (r : Fin 768) (k : Fin 7168) : EReal := rms (I.x r) I.ga k
/-- The attention of all heads. -/
def ao (r : Fin 768) (o : Fin 2048) : EReal :=
  attnOf (fun r v => rope v (I.cos r) (I.sin r)) (fun r => proj (I.xa r) I.wq I.sq) (fun r => proj (I.xa r) I.wk I.sk)
    (fun r => proj (I.xa r) I.wv I.sv) r o
/-- The residual stream after the attention. -/
def mid (r : Fin 768) (o : Fin 7168) : EReal := res (I.x r o) (qCode (I.ao r)) (qS (I.ao r)) (fun k => I.wo k o) (I.so o)
/-- The normalised residual stream. -/
def xm (r : Fin 768) (k : Fin 7168) : EReal := rms (I.mid r) I.gm k
/-- The gated units. -/
def h (r : Fin 768) (o : Fin 2304) : EReal := glu (proj (I.xm r) I.wg I.sg o) (proj (I.xm r) I.wu I.su o)
/-- The layer's output. -/
def y (r : Fin 768) (o : Fin 7168) : EReal := res (I.mid r o) (qCode (I.h r)) (qS (I.h r)) (fun k => I.wd k o) (I.sd o)
end In

/-- The row of token `s` of batch entry `b`. -/
def row (b : Fin 2) (s : Fin 384) : Fin 768 := ⟨b * 384 + s, by omega⟩
/-- The batch entry a row belongs to. -/
def batch (r : Fin 768) : Fin 2 := ⟨r / 384, by omega⟩
/-- The token of a row in its batch entry. -/
def token (r : Fin 768) : Fin 384 := ⟨r % 384, Nat.mod_lt _ (by decide)⟩
theorem row_batch_token (r : Fin 768) : row (batch r) (token r) = r := by apply Fin.ext; simp only [row, batch, token]; omega
theorem batch_row (b : Fin 2) (s : Fin 384) : batch (row b s) = b := by apply Fin.ext; simp only [row, batch]; omega
theorem token_row (b : Fin 2) (s : Fin 384) : token (row b s) = s := by apply Fin.ext; simp only [row, token]; omega

/-- The angle of frequency `j` at token `s` of a batch entry whose first position is `p`. -/
def angle (p : BitVec 32) (s j : ℕ) : EReal :=
  FloatOps.sitofp (F := Ideal) .f32 (IntOp.addi p (BitVec.ofNat 32 s)) * Ideal.pow (Ideal.ofBits .f32 0x48F42400#32)
    (-Ideal.div (Ideal.ofBits .f32 0x40000000#32 * FloatOps.sitofp (F := Ideal) .f32 (BitVec.ofNat 32 j)) (Ideal.ofBits .f32 0x43000000#32))
/-- The frequency of a head's coordinate: both halves use the same 64. -/
def freq (d : Fin 128) : ℕ := if (d : ℕ) < 64 then d else d - 64

/-- The layer's inputs from the arguments both programs take. -/
def input (x : Fin 2 → Fin 384 → Fin 7168 → EReal) (p : Fin 2 → BitVec 32) (ga : Fin 7168 → EReal)
    (wq : Fin 7168 → Fin 2048 → EReal) (sq : Fin 2048 → EReal) (wk : Fin 7168 → Fin 2048 → EReal) (sk : Fin 2048 → EReal)
    (wv : Fin 7168 → Fin 2048 → EReal) (sv : Fin 2048 → EReal) (wo : Fin 2048 → Fin 7168 → EReal) (so gm : Fin 7168 → EReal)
    (wg : Fin 7168 → Fin 2304 → EReal) (sg : Fin 2304 → EReal) (wu : Fin 7168 → Fin 2304 → EReal) (su : Fin 2304 → EReal)
    (wd : Fin 2304 → Fin 7168 → EReal) (sd : Fin 7168 → EReal) : In where
  x r := x (batch r) (token r)
  cos r d := Ideal.cos (angle (p (batch r)) (token r) (freq d))
  sin r d := Ideal.sin (angle (p (batch r)) (token r) (freq d))
  ga := ga
  wq := wq
  sq := sq
  wk := wk
  sk := sk
  wv := wv
  sv := sv
  wo := wo
  so := so
  gm := gm
  wg := wg
  sg := sg
  wu := wu
  su := su
  wd := wd
  sd := sd

/-- An array of two axes from its entries. -/
abbrev T2 {n p : ℕ} (f : Fin n → Fin p → EReal) : (⟨2, ![n, p]⟩ : Shape).Idx → EReal := fun i => f (i 0) (i 1)
/-- A result of three axes, batch entry by token by coordinate, from its rows. -/
abbrev T3 {n : ℕ} (f : Fin 768 → Fin n → EReal) : (⟨3, ![2, 384, n]⟩ : Shape).Idx → EReal := fun i => f (row (i 0) (i 1)) (i 2)

theorem attnOf_congr {e e' : Fin 768 → (Fin 128 → EReal) → Fin 128 → EReal} {q q' k k' v v' : Fin 768 → Fin 2048 → EReal}
    (he : ∀ r v, e r v = e' r v) (hq : ∀ r o, q r o = q' r o) (hk : ∀ r o, k r o = k' r o) (hv : ∀ r o, v r o = v' r o)
    (r : Fin 768) (o : Fin 2048) : attnOf e q k v r o = attnOf e' q' k' v' r o := by
  rw [funext fun r => funext (he r), funext fun r => funext (hq r), funext fun r => funext (hk r), funext fun r => funext (hv r)]

end Layer
-- ==== Proof.Call.Chase.lean ====
module
public import proofs.«01_k».proof.Proof.Call.Call0
public import proofs.«01_k».proof.Proof.Call.Call1
public import proofs.«01_k».proof.Proof.Call.Call2
public import proofs.«01_k».proof.Proof.Call.Call3
public import proofs.«01_k».proof.Proof.Call.Call4
public import proofs.«01_k».proof.Proof.Call.Call5
public import proofs.«01_k».proof.Proof.Call.Call6
public import proofs.«01_k».proof.Proof.Call.Call7
public import proofs.«01_k».proof.Proof.Layer.Chain
@[expose] public section
set_option maxRecDepth 16384
noncomputable section
open Idealize.ShloMosaic Idealize.ShloMosaic.TcCoe Idealize.SL.Sem
open Idealize.ShloMosaic.Pipeline (Dat)

/-! The contents of every array between the kernel's calls, from the launch to the return, as the layer's functions of the
arguments. A name ends in the boundary its statement is about. -/
namespace Cert.KernelIdeal.Call
open Cert.KernelIdeal Cert.KernelIdeal.Gen
open Layer (T2 T3)

variable (m : (ℓ : Loc nD τ sig) → Buf (Elt Ideal) ℓ) (ρ : Dev nD → PrngReg) (c : Dev nD)

/-- The layer's inputs, read from the launch memory. -/
def inp : Layer.In := Layer.input
  (fun b s k => m ((c.tc : Thread nD τ).loc main_arg0) (ix3 b s k))
  (fun b => m ((c.tc : Thread nD τ).loc main_arg1) (ix1 b))
  (fun k => m ((c.tc : Thread nD τ).loc main_arg2) (ix1 k))
  (fun k o => m ((c.tc : Thread nD τ).loc main_arg3) (ix2 k o))
  (fun k => m ((c.tc : Thread nD τ).loc main_arg4) (ix1 k))
  (fun k o => m ((c.tc : Thread nD τ).loc main_arg5) (ix2 k o))
  (fun k => m ((c.tc : Thread nD τ).loc main_arg6) (ix1 k))
  (fun k o => m ((c.tc : Thread nD τ).loc main_arg7) (ix2 k o))
  (fun k => m ((c.tc : Thread nD τ).loc main_arg8) (ix1 k))
  (fun k o => m ((c.tc : Thread nD τ).loc main_arg9) (ix2 k o))
  (fun k => m ((c.tc : Thread nD τ).loc main_arg10) (ix1 k))
  (fun k => m ((c.tc : Thread nD τ).loc main_arg11) (ix1 k))
  (fun k o => m ((c.tc : Thread nD τ).loc main_arg12) (ix2 k o))
  (fun k => m ((c.tc : Thread nD τ).loc main_arg13) (ix1 k))
  (fun k o => m ((c.tc : Thread nD τ).loc main_arg14) (ix2 k o))
  (fun k => m ((c.tc : Thread nD τ).loc main_arg15) (ix1 k))
  (fun k o => m ((c.tc : Thread nD τ).loc main_arg16) (ix2 k o))
  (fun k => m ((c.tc : Thread nD τ).loc main_arg17) (ix1 k))

/-! What the host prepares before the first call. -/

theorem x_1 : V1 m ρ c main_v27 = T2 (inp m c).x := by
  funext i; idx_vars i
  unfold V1 W1; after_results; pointwise
  rfl
theorem ga_1 : V1 m ρ c main_v28 = T2 fun _ k => (inp m c).ga k := by
  funext i; idx_vars i
  unfold V1 W1; after_results; pointwise
  rfl
theorem cos_1 : V1 m ρ c main_v24 = T2 (inp m c).cos := by
  funext i; idx_vars i
  unfold V1 W1; after_results; pointwise
  show _ = Ideal.cos (Layer.angle _ _ (Layer.freq i1))
  unfold Layer.freq; split <;> rfl
theorem sin_1 : V1 m ρ c main_v26 = T2 fun r d => if (d : ℕ) < 64 then -(inp m c).sin r d else (inp m c).sin r d := by
  funext i; idx_vars i
  unfold V1 W1; after_results; pointwise
  show _ = if (i1 : ℕ) < 64 then -Ideal.sin (Layer.angle _ _ (Layer.freq i1)) else Ideal.sin (Layer.angle _ _ (Layer.freq i1))
  unfold Layer.freq; split <;> simp only [*, if_true, if_false] <;> rfl

/-! The first call quantises the normalised input. -/

theorem xac_2 : V2 m ρ c main_v29_0 = T2 fun r => Layer.qCode ((inp m c).xa r) :=
  (W2_arr m ρ c 2).trans ((codes0 (V1 m ρ) c).trans (funext fun i => Layer.qCode_congr (fun k => Layer.rms_congr (fun k => congrFun (x_1 m ρ c) (ix2 (i 0) k)) (fun k => congrFun (ga_1 m ρ c) (ix2 0 k)) k) rfl))
theorem xas_2 : V2 m ρ c main_v29_1 = T2 fun r (_ : Fin 1) => Layer.qS ((inp m c).xa r) :=
  (W2_arr m ρ c 3).trans ((scales0 (V1 m ρ) c).trans (funext fun i => Layer.qS_congr (fun k => Layer.rms_congr (fun k => congrFun (x_1 m ρ c) (ix2 (i 0) k)) (fun k => congrFun (ga_1 m ρ c) (ix2 0 k)) k)))

/-! The second call projects it to queries, keys and values and attends. -/

theorem sq_3 : V3 m ρ c main_v30 = T2 fun _ o => (inp m c).sq o := by
  funext i; idx_vars i
  unfold V3 W3; after_results; pointwise
  exact congrFun (W2_args m ρ c main_arg4 (by decide)) (ix1 i1)
theorem sk_3 : V3 m ρ c main_v31 = T2 fun _ o => (inp m c).sk o := by
  funext i; idx_vars i
  unfold V3 W3; after_results; pointwise
  exact congrFun (W2_args m ρ c main_arg6 (by decide)) (ix1 i1)
theorem sv_3 : V3 m ρ c main_v32 = T2 fun _ o => (inp m c).sv o := by
  funext i; idx_vars i
  unfold V3 W3; after_results; pointwise
  exact congrFun (W2_args m ρ c main_arg8 (by decide)) (ix1 i1)
theorem wq_3 (k o) : V3 m ρ c main_arg3 (ix2 k o) = (inp m c).wq k o :=
  congrFun (W3_args m ρ c main_arg3 (by decide)) (ix2 k o)
theorem wk_3 (k o) : V3 m ρ c main_arg5 (ix2 k o) = (inp m c).wk k o :=
  congrFun (W3_args m ρ c main_arg5 (by decide)) (ix2 k o)
theorem wv_3 (k o) : V3 m ρ c main_arg7 (ix2 k o) = (inp m c).wv k o :=
  congrFun (W3_args m ρ c main_arg7 (by decide)) (ix2 k o)
theorem xac_3 : V3 m ρ c main_v29_0 = T2 fun r => Layer.qCode ((inp m c).xa r) :=
  (W3_of m ρ c main_v29_0 (by decide)).trans <| xac_2 m ρ c
theorem xas_3 : V3 m ρ c main_v29_1 = T2 fun r (_ : Fin 1) => Layer.qS ((inp m c).xa r) :=
  (W3_of m ρ c main_v29_1 (by decide)).trans <| xas_2 m ρ c
theorem cos_3 : V3 m ρ c main_v24 = T2 (inp m c).cos :=
  (W3_of m ρ c main_v24 (by decide)).trans <| (W2_of m ρ c main_v24 (by decide)).trans <| cos_1 m ρ c
theorem sin_3 : V3 m ρ c main_v26 = T2 fun r d => if (d : ℕ) < 64 then -(inp m c).sin r d else (inp m c).sin r d :=
  (W3_of m ρ c main_v26 (by decide)).trans <| (W2_of m ρ c main_v26 (by decide)).trans <| sin_1 m ρ c
/-- One projection at the second call's entry. -/
theorem lin_3 {w w' : Fin 7168 → Fin 2048 → EReal} {ws ws' : Fin 2048 → EReal} (hw : ∀ k o, w k o = w' k o) (hs : ∀ o, ws o = ws' o)
    (r : Fin 768) (o : Fin 2048) : lin1 (V3 m ρ) c w ws r o = Layer.proj ((inp m c).xa r) w' ws' o :=
  Layer.lin_congr (fun k => congrFun (xac_3 m ρ c) (ix2 r k)) (congrFun (xas_3 m ρ c) (ix2 r 0)) (fun k => hw k o) (hs o)
theorem ao_4 : V4 m ρ c main_v33 = T2 (inp m c).ao :=
  (W4_arr m ρ c 10).trans ((attn1 (V3 m ρ) c).trans (funext fun i => Layer.attnOf_congr
    (fun r v => (funext (Layer.ropeK_congr (fun _ => rfl) (fun d => congrFun (cos_3 m ρ c) (ix2 r d)) (fun d => congrFun (sin_3 m ρ c) (ix2 r d)))).trans
      (Layer.ropeK_eq fun d => rfl))
    (lin_3 m ρ c (wq_3 m ρ c) fun o => congrFun (sq_3 m ρ c) (ix2 0 o)) (lin_3 m ρ c (wk_3 m ρ c) fun o => congrFun (sk_3 m ρ c) (ix2 0 o))
    (lin_3 m ρ c (wv_3 m ρ c) fun o => congrFun (sv_3 m ρ c) (ix2 0 o)) (i 0) (i 1)))

/-! The third call quantises the attention, the fourth projects it and adds the input. -/

theorem aoc_5 : V5 m ρ c main_v34_0 = T2 fun r => Layer.qCode ((inp m c).ao r) :=
  (W5_arr m ρ c 1).trans ((codes2 (V4 m ρ) c).trans (funext fun i => Layer.qCode_congr (fun k => congrFun (ao_4 m ρ c) (ix2 (i 0) k)) rfl))
theorem aos_5 : V5 m ρ c main_v34_1 = T2 fun r (_ : Fin 1) => Layer.qS ((inp m c).ao r) :=
  (W5_arr m ρ c 2).trans ((scales2 (V4 m ρ) c).trans (funext fun i => Layer.qS_congr (fun k => congrFun (ao_4 m ρ c) (ix2 (i 0) k))))
theorem so_6 : V6 m ρ c main_v35 = T2 fun _ o => (inp m c).so o := by
  funext i; idx_vars i
  unfold V6 W6; after_results; pointwise
  exact congrFun (W5_args m ρ c main_arg10 (by decide)) (ix1 i1)
theorem wo_6 (k o) : V6 m ρ c main_arg9 (ix2 k o) = (inp m c).wo k o :=
  congrFun (W6_args m ρ c main_arg9 (by decide)) (ix2 k o)
theorem aoc_6 : V6 m ρ c main_v34_0 = T2 fun r => Layer.qCode ((inp m c).ao r) :=
  (W6_of m ρ c main_v34_0 (by decide)).trans <| aoc_5 m ρ c
theorem aos_6 : V6 m ρ c main_v34_1 = T2 fun r (_ : Fin 1) => Layer.qS ((inp m c).ao r) :=
  (W6_of m ρ c main_v34_1 (by decide)).trans <| aos_5 m ρ c
theorem x_6 : V6 m ρ c main_v27 = T2 (inp m c).x :=
  (W6_of m ρ c main_v27 (by decide)).trans <| (W5_of m ρ c main_v27 (by decide)).trans <| (W4_of m ρ c main_v27 (by decide)).trans <| (W3_of m ρ c main_v27 (by decide)).trans <| (W2_of m ρ c main_v27 (by decide)).trans <| x_1 m ρ c
theorem mid_7 : V7 m ρ c main_v36 = T2 (inp m c).mid :=
  (W7_arr m ρ c 5).trans ((res3 (V6 m ρ) c).trans (funext fun i => Layer.res_congr (congrFun (x_6 m ρ c) i)
    (fun k => congrFun (aoc_6 m ρ c) (ix2 (i 0) k)) (congrFun (aos_6 m ρ c) (ix2 (i 0) 0)) (fun k => wo_6 m ρ c k (i 1)) (congrFun (so_6 m ρ c) (ix2 0 (i 1)))))

/-! The fifth call quantises the normalised residual stream, the sixth makes the gated units of it. -/

theorem gm_8 : V8 m ρ c main_v37 = T2 fun _ o => (inp m c).gm o := by
  funext i; idx_vars i
  unfold V8 W8; after_results; pointwise
  exact congrFun (W7_args m ρ c main_arg11 (by decide)) (ix1 i1)
theorem mid_8 : V8 m ρ c main_v36 = T2 (inp m c).mid :=
  (W8_of m ρ c main_v36 (by decide)).trans <| mid_7 m ρ c
theorem xmc_9 : V9 m ρ c main_v38_0 = T2 fun r => Layer.qCode ((inp m c).xm r) :=
  (W9_arr m ρ c 2).trans ((codes4 (V8 m ρ) c).trans (funext fun i => Layer.qCode_congr (fun k => Layer.rms_congr (fun k => congrFun (mid_8 m ρ c) (ix2 (i 0) k)) (fun k => congrFun (gm_8 m ρ c) (ix2 0 k)) k) rfl))
theorem xms_9 : V9 m ρ c main_v38_1 = T2 fun r (_ : Fin 1) => Layer.qS ((inp m c).xm r) :=
  (W9_arr m ρ c 3).trans ((scales4 (V8 m ρ) c).trans (funext fun i => Layer.qS_congr (fun k => Layer.rms_congr (fun k => congrFun (mid_8 m ρ c) (ix2 (i 0) k)) (fun k => congrFun (gm_8 m ρ c) (ix2 0 k)) k)))
theorem sg_10 : V10 m ρ c main_v39 = T2 fun _ o => (inp m c).sg o := by
  funext i; idx_vars i
  unfold V10 W10; after_results; pointwise
  exact congrFun (W9_args m ρ c main_arg13 (by decide)) (ix1 i1)
theorem su_10 : V10 m ρ c main_v40 = T2 fun _ o => (inp m c).su o := by
  funext i; idx_vars i
  unfold V10 W10; after_results; pointwise
  exact congrFun (W9_args m ρ c main_arg15 (by decide)) (ix1 i1)
theorem wg_10 (k o) : V10 m ρ c main_arg12 (ix2 k o) = (inp m c).wg k o :=
  congrFun (W10_args m ρ c main_arg12 (by decide)) (ix2 k o)
theorem wu_10 (k o) : V10 m ρ c main_arg14 (ix2 k o) = (inp m c).wu k o :=
  congrFun (W10_args m ρ c main_arg14 (by decide)) (ix2 k o)
theorem xmc_10 : V10 m ρ c main_v38_0 = T2 fun r => Layer.qCode ((inp m c).xm r) :=
  (W10_of m ρ c main_v38_0 (by decide)).trans <| xmc_9 m ρ c
theorem xms_10 : V10 m ρ c main_v38_1 = T2 fun r (_ : Fin 1) => Layer.qS ((inp m c).xm r) :=
  (W10_of m ρ c main_v38_1 (by decide)).trans <| xms_9 m ρ c
theorem h_11 : V11 m ρ c main_v41 = T2 (inp m c).h :=
  (W11_arr m ρ c 6).trans ((glu5 (V10 m ρ) c).trans (funext fun i => Layer.glu_congr
    (Layer.lin_congr (fun k => congrFun (xmc_10 m ρ c) (ix2 (i 0) k)) (congrFun (xms_10 m ρ c) (ix2 (i 0) 0)) (fun k => wg_10 m ρ c k (i 1))
      (congrFun (sg_10 m ρ c) (ix2 0 (i 1))))
    (Layer.lin_congr (fun k => congrFun (xmc_10 m ρ c) (ix2 (i 0) k)) (congrFun (xms_10 m ρ c) (ix2 (i 0) 0)) (fun k => wu_10 m ρ c k (i 1))
      (congrFun (su_10 m ρ c) (ix2 0 (i 1))))))

/-! The seventh call quantises the units, the eighth projects them and adds the residual stream. -/

theorem hc_12 : V12 m ρ c main_v42_0 = T2 fun r => Layer.qCode ((inp m c).h r) :=
  (W12_arr m ρ c 1).trans ((codes6 (V11 m ρ) c).trans (funext fun i => Layer.qCode_congr (fun k => congrFun (h_11 m ρ c) (ix2 (i 0) k)) rfl))
theorem hs_12 : V12 m ρ c main_v42_1 = T2 fun r (_ : Fin 1) => Layer.qS ((inp m c).h r) :=
  (W12_arr m ρ c 2).trans ((scales6 (V11 m ρ) c).trans (funext fun i => Layer.qS_congr (fun k => congrFun (h_11 m ρ c) (ix2 (i 0) k))))
theorem sd_13 : V13 m ρ c main_v43 = T2 fun _ o => (inp m c).sd o := by
  funext i; idx_vars i
  unfold V13 W13; after_results; pointwise
  exact congrFun (W12_args m ρ c main_arg17 (by decide)) (ix1 i1)
theorem wd_13 (k o) : V13 m ρ c main_arg16 (ix2 k o) = (inp m c).wd k o :=
  congrFun (W13_args m ρ c main_arg16 (by decide)) (ix2 k o)
theorem hc_13 : V13 m ρ c main_v42_0 = T2 fun r => Layer.qCode ((inp m c).h r) :=
  (W13_of m ρ c main_v42_0 (by decide)).trans <| hc_12 m ρ c
theorem hs_13 : V13 m ρ c main_v42_1 = T2 fun r (_ : Fin 1) => Layer.qS ((inp m c).h r) :=
  (W13_of m ρ c main_v42_1 (by decide)).trans <| hs_12 m ρ c
theorem mid_13 : V13 m ρ c main_v36 = T2 (inp m c).mid :=
  (W13_of m ρ c main_v36 (by decide)).trans <| (W12_of m ρ c main_v36 (by decide)).trans <| (W11_of m ρ c main_v36 (by decide)).trans <| (W10_of m ρ c main_v36 (by decide)).trans <| (W9_of m ρ c main_v36 (by decide)).trans <| mid_8 m ρ c
theorem y_14 : V14 m ρ c main_v44 = T2 (inp m c).y :=
  (W14_arr m ρ c 5).trans ((res7 (V13 m ρ) c).trans (funext fun i => Layer.res_congr (congrFun (mid_13 m ρ c) i)
    (fun k => congrFun (hc_13 m ρ c) (ix2 (i 0) k)) (congrFun (hs_13 m ρ c) (ix2 (i 0) 0)) (fun k => wd_13 m ρ c k (i 1)) (congrFun (sd_13 m ρ c) (ix2 0 (i 1)))))

/-! What is returned: each result with its rows split into batch entry and token. -/

theorem xac_14 : V14 m ρ c main_v29_0 = T2 fun r => Layer.qCode ((inp m c).xa r) :=
  (W14_of m ρ c main_v29_0 (by decide)).trans <| (W13_of m ρ c main_v29_0 (by decide)).trans <| (W12_of m ρ c main_v29_0 (by decide)).trans <| (W11_of m ρ c main_v29_0 (by decide)).trans <| (W10_of m ρ c main_v29_0 (by decide)).trans <| (W9_of m ρ c main_v29_0 (by decide)).trans <| (W8_of m ρ c main_v29_0 (by decide)).trans <| (W7_of m ρ c main_v29_0 (by decide)).trans <| (W6_of m ρ c main_v29_0 (by decide)).trans <| (W5_of m ρ c main_v29_0 (by decide)).trans <| (W4_of m ρ c main_v29_0 (by decide)).trans <| xac_3 m ρ c
theorem xas_14 : V14 m ρ c main_v29_1 = T2 fun r (_ : Fin 1) => Layer.qS ((inp m c).xa r) :=
  (W14_of m ρ c main_v29_1 (by decide)).trans <| (W13_of m ρ c main_v29_1 (by decide)).trans <| (W12_of m ρ c main_v29_1 (by decide)).trans <| (W11_of m ρ c main_v29_1 (by decide)).trans <| (W10_of m ρ c main_v29_1 (by decide)).trans <| (W9_of m ρ c main_v29_1 (by decide)).trans <| (W8_of m ρ c main_v29_1 (by decide)).trans <| (W7_of m ρ c main_v29_1 (by decide)).trans <| (W6_of m ρ c main_v29_1 (by decide)).trans <| (W5_of m ρ c main_v29_1 (by decide)).trans <| (W4_of m ρ c main_v29_1 (by decide)).trans <| xas_3 m ρ c
theorem aoc_14 : V14 m ρ c main_v34_0 = T2 fun r => Layer.qCode ((inp m c).ao r) :=
  (W14_of m ρ c main_v34_0 (by decide)).trans <| (W13_of m ρ c main_v34_0 (by decide)).trans <| (W12_of m ρ c main_v34_0 (by decide)).trans <| (W11_of m ρ c main_v34_0 (by decide)).trans <| (W10_of m ρ c main_v34_0 (by decide)).trans <| (W9_of m ρ c main_v34_0 (by decide)).trans <| (W8_of m ρ c main_v34_0 (by decide)).trans <| (W7_of m ρ c main_v34_0 (by decide)).trans <| aoc_6 m ρ c
theorem aos_14 : V14 m ρ c main_v34_1 = T2 fun r (_ : Fin 1) => Layer.qS ((inp m c).ao r) :=
  (W14_of m ρ c main_v34_1 (by decide)).trans <| (W13_of m ρ c main_v34_1 (by decide)).trans <| (W12_of m ρ c main_v34_1 (by decide)).trans <| (W11_of m ρ c main_v34_1 (by decide)).trans <| (W10_of m ρ c main_v34_1 (by decide)).trans <| (W9_of m ρ c main_v34_1 (by decide)).trans <| (W8_of m ρ c main_v34_1 (by decide)).trans <| (W7_of m ρ c main_v34_1 (by decide)).trans <| aos_6 m ρ c
theorem xmc_14 : V14 m ρ c main_v38_0 = T2 fun r => Layer.qCode ((inp m c).xm r) :=
  (W14_of m ρ c main_v38_0 (by decide)).trans <| (W13_of m ρ c main_v38_0 (by decide)).trans <| (W12_of m ρ c main_v38_0 (by decide)).trans <| (W11_of m ρ c main_v38_0 (by decide)).trans <| xmc_10 m ρ c
theorem xms_14 : V14 m ρ c main_v38_1 = T2 fun r (_ : Fin 1) => Layer.qS ((inp m c).xm r) :=
  (W14_of m ρ c main_v38_1 (by decide)).trans <| (W13_of m ρ c main_v38_1 (by decide)).trans <| (W12_of m ρ c main_v38_1 (by decide)).trans <| (W11_of m ρ c main_v38_1 (by decide)).trans <| xms_10 m ρ c
theorem hc_14 : V14 m ρ c main_v42_0 = T2 fun r => Layer.qCode ((inp m c).h r) :=
  (W14_of m ρ c main_v42_0 (by decide)).trans <| hc_13 m ρ c
theorem hs_14 : V14 m ρ c main_v42_1 = T2 fun r (_ : Fin 1) => Layer.qS ((inp m c).h r) :=
  (W14_of m ρ c main_v42_1 (by decide)).trans <| hs_13 m ρ c
theorem y_15 : W15 m ρ c main_v45 = T3 ((inp m c).y) := by
  funext i; idx_vars i
  unfold W15; after_results; pointwise
  exact congrFun (y_14 m ρ c) (ix2 (Layer.row i0 i1) i2)
theorem xac_15 : W15 m ρ c main_v46 = T3 (fun r => Layer.qCode ((inp m c).xa r)) := by
  funext i; idx_vars i
  unfold W15; after_results; pointwise
  exact congrFun (xac_14 m ρ c) (ix2 (Layer.row i0 i1) i2)
theorem xas_15 : W15 m ρ c main_v47 = T3 (fun r (_ : Fin 1) => Layer.qS ((inp m c).xa r)) := by
  funext i; idx_vars i
  unfold W15; after_results; pointwise
  exact congrFun (xas_14 m ρ c) (ix2 (Layer.row i0 i1) 0)
theorem aoc_15 : W15 m ρ c main_v48 = T3 (fun r => Layer.qCode ((inp m c).ao r)) := by
  funext i; idx_vars i
  unfold W15; after_results; pointwise
  exact congrFun (aoc_14 m ρ c) (ix2 (Layer.row i0 i1) i2)
theorem aos_15 : W15 m ρ c main_v49 = T3 (fun r (_ : Fin 1) => Layer.qS ((inp m c).ao r)) := by
  funext i; idx_vars i
  unfold W15; after_results; pointwise
  exact congrFun (aos_14 m ρ c) (ix2 (Layer.row i0 i1) 0)
theorem xmc_15 : W15 m ρ c main_v50 = T3 (fun r => Layer.qCode ((inp m c).xm r)) := by
  funext i; idx_vars i
  unfold W15; after_results; pointwise
  exact congrFun (xmc_14 m ρ c) (ix2 (Layer.row i0 i1) i2)
theorem xms_15 : W15 m ρ c main_v51 = T3 (fun r (_ : Fin 1) => Layer.qS ((inp m c).xm r)) := by
  funext i; idx_vars i
  unfold W15; after_results; pointwise
  exact congrFun (xms_14 m ρ c) (ix2 (Layer.row i0 i1) 0)
theorem hc_15 : W15 m ρ c main_v52 = T3 (fun r => Layer.qCode ((inp m c).h r)) := by
  funext i; idx_vars i
  unfold W15; after_results; pointwise
  exact congrFun (hc_14 m ρ c) (ix2 (Layer.row i0 i1) i2)
theorem hs_15 : W15 m ρ c main_v53 = T3 (fun r (_ : Fin 1) => Layer.qS ((inp m c).h r)) := by
  funext i; idx_vars i
  unfold W15; after_results; pointwise
  exact congrFun (hs_14 m ρ c) (ix2 (Layer.row i0 i1) 0)

end Cert.KernelIdeal.Call
-- ==== Proof.Call.Run.lean ====
module
public import proofs.«01_k».proof.Proof.Gen.KernelIdeal.Frame
@[expose] public section
set_option maxRecDepth 16384
noncomputable section
open Idealize.ShloMosaic Idealize.ShloMosaic.TcCoe Idealize.SL.Sem
open Idealize.ShloMosaic.Tactic Idealize.SL Idealize.SL.RA Idealize.SL.BI
open scoped Idealize.SL.BI
open Idealize.SL.BI.BIBase Idealize.SL.BI.Laws Idealize.SL.ProofMode
open Idealize.ShloMosaic.Rounds

/-! The kernel's run, with what every array that outlives the calls holds at the end. -/
namespace Cert.KernelIdeal.Call
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair run from `m` ends, and then every such array holds what the last boundary's contents say. -/
theorem run_end : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ => h)

end Cert.KernelIdeal.Call
-- ==== Proof.Call.Results.lean ====
module
public import proofs.«01_k».proof.Proof.Call.Chase
public import proofs.«01_k».proof.Proof.Call.Run
@[expose] public section
set_option maxRecDepth 16384
noncomputable section
open Idealize.ShloMosaic Idealize.ShloMosaic.TcCoe Idealize.SL.Sem

/-! What the kernel leaves: the layer's nine results, and its arguments. -/
namespace Cert.KernelIdeal.Call
open Cert.KernelIdeal Cert.KernelIdeal.Gen
open Layer (T3)

variable (m : (ℓ : Loc nD τ sig) → Buf (Elt Ideal) ℓ) (ρ : Dev nD → PrngReg)

/-- Every fair run from `m` ends with the layer's results, its arguments as they were. -/
theorem results : θ_run defs (onTc (τ := τ) (main (F := Ideal))) ⟨m, fun _ => 0, ρ⟩ (fun r => ∀ c : Dev nD,
      r.2.mem ((c.tc : Thread nD τ).loc main_v45) = T3 (inp m c).y
      ∧ r.2.mem ((c.tc : Thread nD τ).loc main_v46) = T3 (fun r => Layer.qCode ((inp m c).xa r))
      ∧ r.2.mem ((c.tc : Thread nD τ).loc main_v47) = T3 (fun r (_ : Fin 1) => Layer.qS ((inp m c).xa r))
      ∧ r.2.mem ((c.tc : Thread nD τ).loc main_v48) = T3 (fun r => Layer.qCode ((inp m c).ao r))
      ∧ r.2.mem ((c.tc : Thread nD τ).loc main_v49) = T3 (fun r (_ : Fin 1) => Layer.qS ((inp m c).ao r))
      ∧ r.2.mem ((c.tc : Thread nD τ).loc main_v50) = T3 (fun r => Layer.qCode ((inp m c).xm r))
      ∧ r.2.mem ((c.tc : Thread nD τ).loc main_v51) = T3 (fun r (_ : Fin 1) => Layer.qS ((inp m c).xm r))
      ∧ r.2.mem ((c.tc : Thread nD τ).loc main_v52) = T3 (fun r => Layer.qCode ((inp m c).h r))
      ∧ r.2.mem ((c.tc : Thread nD τ).loc main_v53) = T3 (fun r (_ : Fin 1) => Layer.qS ((inp m c).h r))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c _ (mem_uc main_v45 (by decide))).trans (y_15 m ρ c),
      (h c _ (mem_uc main_v46 (by decide))).trans (xac_15 m ρ c),
      (h c _ (mem_uc main_v47 (by decide))).trans (xas_15 m ρ c),
      (h c _ (mem_uc main_v48 (by decide))).trans (aoc_15 m ρ c),
      (h c _ (mem_uc main_v49 (by decide))).trans (aos_15 m ρ c),
      (h c _ (mem_uc main_v50 (by decide))).trans (xmc_15 m ρ c),
      (h c _ (mem_uc main_v51 (by decide))).trans (xms_15 m ρ c),
      (h c _ (mem_uc main_v52 (by decide))).trans (hc_15 m ρ c),
      (h c _ (mem_uc main_v53 (by decide))).trans (hs_15 m ρ c),
      (h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c),
      (h c _ (mem_uc main_arg6 (by decide))).trans (W15_main_arg6 m ρ c),
      (h c _ (mem_uc main_arg7 (by decide))).trans (W15_main_arg7 m ρ c),
      (h c _ (mem_uc main_arg8 (by decide))).trans (W15_main_arg8 m ρ c),
      (h c _ (mem_uc main_arg9 (by decide))).trans (W15_main_arg9 m ρ c),
      (h c _ (mem_uc main_arg10 (by decide))).trans (W15_main_arg10 m ρ c),
      (h c _ (mem_uc main_arg11 (by decide))).trans (W15_main_arg11 m ρ c),
      (h c _ (mem_uc main_arg12 (by decide))).trans (W15_main_arg12 m ρ c),
      (h c _ (mem_uc main_arg13 (by decide))).trans (W15_main_arg13 m ρ c),
      (h c _ (mem_uc main_arg14 (by decide))).trans (W15_main_arg14 m ρ c),
      (h c _ (mem_uc main_arg15 (by decide))).trans (W15_main_arg15 m ρ c),
      (h c _ (mem_uc main_arg16 (by decide))).trans (W15_main_arg16 m ρ c),
      (h c _ (mem_uc main_arg17 (by decide))).trans (W15_main_arg17 m ρ c)⟩) (run_end m ρ)

end Cert.KernelIdeal.Call
-- ==== Proof.Ref.Row.lean ====
module
public import proofs.«01_k».proof.Proof.Gen.ReferenceIdeal.Skeleton
public import proofs.«01_k».proof.Proof.Layer.Chain
public import proofs.«01_k».proof.Proof.Layer.Quant
public import Idealize.ShloMosaic.Lib.WordCmp
@[expose] public section
set_option maxRecDepth 16384
noncomputable section
open Idealize.ShloMosaic Idealize.ShloMosaic.TcCoe Idealize.SL.Sem

/-! The reference's steps on arrays of three axes (batch entry, token, coordinate), each read row by row. Every step is a
function of arrays, and every fact is about variables, so that the reference's own values use it as a term. -/
namespace Cert.ReferenceIdeal.Row
open Cert.ReferenceIdeal Cert.ReferenceIdeal.Gen

/-- The array `w` holds the rows `f`. -/
def Rows {n : ℕ} (w : (⟨3, ![2, 384, n]⟩ : Shape).Idx → EReal) (f : Fin 768 → Fin n → EReal) : Prop :=
  ∀ b s k, w (ix3 b s k) = f (Layer.row b s) k
/-- The array `w` of one value per row holds `g`. -/
def Col (w : FVec Ideal S2x384x1 .f32) (g : Fin 768 → EReal) : Prop := ∀ b s, w (ix3 b s 0) = g (Layer.row b s)

variable {n : ℕ}

/-- The quantiser's threshold of each row. -/
def thr (w : FVec Ideal ⟨3, ![2, 384, n]⟩ .f32) (h : Shape.Reduces ⟨3, ![2, 384, n]⟩ [2] S2x384) : FVec Ideal S2x384x1 .f32 :=
  mulf (shapeCast S2x384x1 (multiReduction .maximumf [2] S2x384 (absf w) 0xFF800000#32 h (.inl rfl) rfl) shapeCasts_S2x384_S2x384x1)
    (broadcast S2x384x1 (Scalar.ofBits .f32 0x3B124925#32))
theorem thr_at (w : FVec Ideal ⟨3, ![2, 384, n]⟩ .f32) (h) (b : Fin 2) (s : Fin 384) :
    thr w h (ix3 b s 0) = Layer.qT fun k => w (ix3 b s k) := by
  pointwise [thr, Layer.qT]
theorem thr_col {w : FVec Ideal ⟨3, ![2, 384, n]⟩ .f32} {f : Fin 768 → Fin n → EReal} (hw : Rows w f) (h) :
    Col (thr w h) fun r => Layer.qT (f r) :=
  fun b s => (thr_at w h b s).trans (congrArg Layer.qT (funext (hw b s)))

/-- The least power of two above each row's threshold. -/
def above (t : FVec Ideal S2x384x1 .f32) : FVec Ideal S2x384x1 .f32 :=
  have e : FVec Ideal S2x384x253 .f32 := exp2 (sitofp .f32 (subi (iota .tc S2x384x253 32 [2] iota_S2x384x253_d2_w32) (broadcast S2x384x253 125#32)))
  shapeCast S2x384x1 (multiReduction .minimumf [2] S2x384
    (select (cmpf .ogt e (broadcastTo S2x384x253 t broadcasts_S2x384x1_S2x384x253)) e (broadcast S2x384x253 (Scalar.ofBits .f32 0x7F800000#32)))
    0x7F800000#32 reduces_S2x384x253_S2x384 (.inl rfl) rfl) shapeCasts_S2x384_S2x384x1
theorem above_at (t : FVec Ideal S2x384x1 .f32) (b : Fin 2) (s : Fin 384) : above t (ix3 b s 0) = Layer.qAbove (t (ix3 b s 0)) := by
  pointwise [above, Layer.qAbove]
theorem above_col {t : FVec Ideal S2x384x1 .f32} {g : Fin 768 → EReal} (ht : Col t g) : Col (above t) fun r => Layer.qAbove (g r) :=
  fun b s => (above_at t b s).trans (congrArg Layer.qAbove (ht b s))

/-- The scale of each row, from its threshold `t` and the power of two `a`. -/
def scale (t a : FVec Ideal S2x384x1 .f32) : FVec Ideal S2x384x1 .f32 :=
  select (cmpf .olt t (broadcast S2x384x1 (Scalar.ofBits .f32 0x00800000#32))) (broadcast S2x384x1 (Scalar.ofBits .f32 0x3F800000#32))
    (select (cmpf .olt t (broadcast S2x384x1 (Scalar.ofBits .f32 0x7F800000#32))) a (broadcast S2x384x1 (Scalar.ofBits .f32 0x00000000#32)))
theorem scale_at (t a : FVec Ideal S2x384x1 .f32) (b : Fin 2) (s : Fin 384) : scale t a (ix3 b s 0)
    = if t (ix3 b s 0) < Ideal.ofBits .f32 0x00800000#32 then 1
      else if t (ix3 b s 0) < Ideal.ofBits .f32 0x7F800000#32 then a (ix3 b s 0) else 0 := by
  pointwise [scale]
theorem scale_col {t a : FVec Ideal S2x384x1 .f32} {g : Fin 768 → EReal} (ht : Col t g) (ha : Col a fun r => Layer.qAbove (g r)) :
    Col (scale t a) fun r => Layer.qScale (g r) := fun b s => by rw [scale_at, ht b s, ha b s]; rfl

/-- What each row is multiplied by, from its threshold `t` and the power of two `a`. -/
def inv (t a : FVec Ideal S2x384x1 .f32) : FVec Ideal S2x384x1 .f32 :=
  select (cmpf .olt t (broadcast S2x384x1 (Scalar.ofBits .f32 0x7E800000#32)))
    (select (cmpf .olt t (broadcast S2x384x1 (Scalar.ofBits .f32 0x00800000#32))) (broadcast S2x384x1 (Scalar.ofBits .f32 0x3F800000#32))
      (divf (broadcast S2x384x1 (Scalar.ofBits .f32 0x3F800000#32)) a))
    (select (cmpf .olt t (broadcast S2x384x1 (Scalar.ofBits .f32 0x7F000000#32))) (broadcast S2x384x1 (Scalar.ofBits .f32 0x00000000#32))
      (select (cmpf .olt t (broadcast S2x384x1 (Scalar.ofBits .f32 0x7F800000#32))) (broadcast S2x384x1 (Scalar.ofBits .f32 0xFF800000#32))
        (broadcast S2x384x1 (Scalar.ofBits .f32 0xFF000000#32))))
theorem inv_at (t a : FVec Ideal S2x384x1 .f32) (b : Fin 2) (s : Fin 384) : inv t a (ix3 b s 0)
    = if t (ix3 b s 0) < Ideal.ofBits .f32 0x7E800000#32 then
        if t (ix3 b s 0) < Ideal.ofBits .f32 0x00800000#32 then 1 else Ideal.div 1 (a (ix3 b s 0))
      else if t (ix3 b s 0) < Ideal.ofBits .f32 0x7F000000#32 then 0
      else if t (ix3 b s 0) < Ideal.ofBits .f32 0x7F800000#32 then Ideal.ofBits .f32 0xFF800000#32
      else Ideal.ofBits .f32 0xFF000000#32 := by
  pointwise [inv]
theorem inv_col {t a : FVec Ideal S2x384x1 .f32} {g : Fin 768 → EReal} (ht : Col t g) (ha : Col a fun r => Layer.qAbove (g r)) :
    Col (inv t a) fun r => Layer.qInv (g r) := fun b s => by rw [inv_at, ht b s, ha b s]; rfl

/-- The codes of the rows `w`, each multiplied by its `i`. -/
def code (w : FVec Ideal ⟨3, ![2, 384, n]⟩ .f32) (i : FVec Ideal S2x384x1 .f32) (h : S2x384x1.Broadcasts ⟨3, ![2, 384, n]⟩) :
    FVec Ideal ⟨3, ![2, 384, n]⟩ .fp8e4m3 :=
  truncf .fp8e4m3 (minimumf (broadcast ⟨3, ![2, 384, n]⟩ (Scalar.ofBits .f32 0x43E00000#32))
    (maximumf (broadcast ⟨3, ![2, 384, n]⟩ (Scalar.ofBits .f32 0xC3E00000#32)) (mulf w (broadcastTo ⟨3, ![2, 384, n]⟩ i h)))) bitsLt_fp8e4m3_f32
theorem code_at (w : FVec Ideal ⟨3, ![2, 384, n]⟩ .f32) (i : FVec Ideal S2x384x1 .f32) (h) (b : Fin 2) (s : Fin 384) (k : Fin n) :
    code w i h (ix3 b s k) = Layer.clip (w (ix3 b s k)) (i (ix3 b s 0)) := by
  pointwise [code, Layer.clip]
theorem code_rows {w : FVec Ideal ⟨3, ![2, 384, n]⟩ .f32} {i : FVec Ideal S2x384x1 .f32} {f : Fin 768 → Fin n → EReal}
    (hw : Rows w f) (hi : Col i fun r => Layer.qInv (Layer.qT (f r))) (h) : Rows (code w i h) fun r => Layer.qCode (f r) :=
  fun b s k => (code_at w i h b s k).trans (congrArg₂ Layer.clip (hw b s k) (hi b s))

/-- The norm of each row, weighted by `g`. -/
def norm (x : FVec Ideal S2x384x7168 .f32) (g : FVec Ideal S7168 .bf16) : FVec Ideal S2x384x7168 .f32 :=
  mulf (mulf x (broadcastTo S2x384x7168 (rsqrt (addf (divf (shapeCast S2x384x1
      (multiReduction .add [2] S2x384 (mulf x x) 0x00000000#32 reduces_S2x384x7168_S2x384 (.inl rfl) rfl) shapeCasts_S2x384_S2x384x1)
      (broadcast S2x384x1 (Scalar.ofBits .f32 0x45E00000#32))) (broadcast S2x384x1 (Scalar.ofBits .f32 0x3727C5AC#32)))) broadcasts_S2x384x1_S2x384x7168))
    (broadcastTo S2x384x7168 (shapeCast S1x1x7168 (extf .f32 g bitsLt_bf16_f32) shapeCasts_S7168_S1x1x7168) broadcasts_S1x1x7168_S2x384x7168)
theorem norm_at (x : FVec Ideal S2x384x7168 .f32) (g : FVec Ideal S7168 .bf16) (b : Fin 2) (s : Fin 384) (k : Fin 7168) :
    norm x g (ix3 b s k) = Layer.rms (fun k => x (ix3 b s k)) (fun k => g (ix1 k)) k := by
  pointwise [norm, Layer.rms]
theorem norm_rows {x : FVec Ideal S2x384x7168 .f32} {f : Fin 768 → Fin 7168 → EReal} (hx : Rows x f) (g : FVec Ideal S7168 .bf16) :
    Rows (norm x g) fun r => Layer.rms (f r) fun k => g (ix1 k) :=
  fun b s k => (norm_at x g b s k).trans (Layer.rms_congr (hx b s) (fun _ => rfl) k)

/-- A projection from the products `m` of codes and weights, the codes' scales `s` and the columns' scales `u`, spread over the rows. -/
def scaled (m u : FVec Ideal ⟨3, ![2, 384, n]⟩ .f32) (s : FVec Ideal S2x384x1 .f32) (h : S2x384x1.Broadcasts ⟨3, ![2, 384, n]⟩) :
    FVec Ideal ⟨3, ![2, 384, n]⟩ .f32 := mulf (mulf m (broadcastTo ⟨3, ![2, 384, n]⟩ s h)) u
theorem scaled_at (m u : FVec Ideal ⟨3, ![2, 384, n]⟩ .f32) (s : FVec Ideal S2x384x1 .f32) (h) (b : Fin 2) (q : Fin 384) (o : Fin n) :
    scaled m u s h (ix3 b q o) = m (ix3 b q o) * s (ix3 b q 0) * u (ix3 b q o) := by
  pointwise [scaled]
theorem scaled_rows {p : ℕ} {m u : FVec Ideal ⟨3, ![2, 384, n]⟩ .f32} {s : FVec Ideal S2x384x1 .f32} {f : Fin 768 → Fin p → EReal}
    {w : Fin p → Fin n → EReal} {ws : Fin n → EReal} (hm : Rows m fun r o => ∑ k, Layer.qCode (f r) k * w k o) (hs : Col s fun r => Layer.qS (f r))
    (hu : ∀ b q o, u (ix3 b q o) = ws o) (h) : Rows (scaled m u s h) fun r => Layer.proj (f r) w ws :=
  fun b q o => by rw [scaled_at, hm b q o, hs b q, hu b q o]; rfl
theorem spreadA (ws : FVec Ideal S2048 .f32) (b : Fin 2) (q : Fin 384) (o : Fin 2048) : broadcastTo S2x384x2048
    (shapeCast S1x1x2048 ws shapeCasts_S2048_S1x1x2048) broadcasts_S1x1x2048_S2x384x2048 (ix3 b q o) = ws (ix1 o) := by pointwise
theorem spreadO (ws : FVec Ideal S7168 .f32) (b : Fin 2) (q : Fin 384) (o : Fin 7168) : broadcastTo S2x384x7168
    (shapeCast S1x1x7168 ws shapeCasts_S7168_S1x1x7168) broadcasts_S1x1x7168_S2x384x7168 (ix3 b q o) = ws (ix1 o) := by pointwise
theorem spreadU (ws : FVec Ideal S2304 .f32) (b : Fin 2) (q : Fin 384) (o : Fin 2304) : broadcastTo S2x384x2304
    (shapeCast S1x1x2304 ws shapeCasts_S2304_S1x1x2304) broadcasts_S1x1x2304_S2x384x2304 (ix3 b q o) = ws (ix1 o) := by pointwise

/-! The products of codes and weights, at the four pairs of lengths. -/

theorem dotA {c : FVec Ideal S2x384x7168 .fp8e4m3} {f : Fin 768 → Fin 7168 → EReal} (hc : Rows c f) (w : FVec Ideal S7168x2048 .fp8e4m3) :
    Rows (matmul dot_S2x384x7168_S7168x2048_S2x384x2048_2_0_01_1_n_n none c w (constant S2x384x2048 .f32 0x00000000#32))
      fun r o => ∑ k, f r k * w (ix2 k o) := fun b s o => by
  pointwise
  exact Finset.sum_congr rfl fun k _ => congrArg (· * _) (hc b s k)
theorem dotO {c : FVec Ideal S2x384x2048 .fp8e4m3} {f : Fin 768 → Fin 2048 → EReal} (hc : Rows c f) (w : FVec Ideal S2048x7168 .fp8e4m3) :
    Rows (matmul dot_S2x384x2048_S2048x7168_S2x384x7168_2_0_01_1_n_n none c w (constant S2x384x7168 .f32 0x00000000#32))
      fun r o => ∑ k, f r k * w (ix2 k o) := fun b s o => by
  pointwise
  exact Finset.sum_congr rfl fun k _ => congrArg (· * _) (hc b s k)
theorem dotU {c : FVec Ideal S2x384x7168 .fp8e4m3} {f : Fin 768 → Fin 7168 → EReal} (hc : Rows c f) (w : FVec Ideal S7168x2304 .fp8e4m3) :
    Rows (matmul dot_S2x384x7168_S7168x2304_S2x384x2304_2_0_01_1_n_n none c w (constant S2x384x2304 .f32 0x00000000#32))
      fun r o => ∑ k, f r k * w (ix2 k o) := fun b s o => by
  pointwise
  exact Finset.sum_congr rfl fun k _ => congrArg (· * _) (hc b s k)
theorem dotD {c : FVec Ideal S2x384x2304 .fp8e4m3} {f : Fin 768 → Fin 2304 → EReal} (hc : Rows c f) (w : FVec Ideal S2304x7168 .fp8e4m3) :
    Rows (matmul dot_S2x384x2304_S2304x7168_S2x384x7168_2_0_01_1_n_n none c w (constant S2x384x7168 .f32 0x00000000#32))
      fun r o => ∑ k, f r k * w (ix2 k o) := fun b s o => by
  pointwise
  exact Finset.sum_congr rfl fun k _ => congrArg (· * _) (hc b s k)

theorem add_at (x y : FVec Ideal ⟨3, ![2, 384, n]⟩ .f32) (b : Fin 2) (s : Fin 384) (o : Fin n) :
    addf x y (ix3 b s o) = x (ix3 b s o) + y (ix3 b s o) := by pointwise
theorem res_rows {p : ℕ} {x y : FVec Ideal ⟨3, ![2, 384, n]⟩ .f32} {f : Fin 768 → Fin n → EReal} {v : Fin 768 → Fin p → EReal}
    {w : Fin p → Fin n → EReal} {ws : Fin n → EReal} (hx : Rows x f) (hy : Rows y fun r => Layer.proj (v r) w ws) :
    Rows (addf x y) fun r o => Layer.res (f r o) (Layer.qCode (v r)) (Layer.qS (v r)) (fun k => w k o) (ws o) :=
  fun b s o => by rw [add_at, hx b s o, hy b s o]; rfl
theorem glu_at (x y : FVec Ideal ⟨3, ![2, 384, n]⟩ .f32) (b : Fin 2) (s : Fin 384) (o : Fin n) :
    mulf (mulf x (logistic x)) y (ix3 b s o) = Layer.glu (x (ix3 b s o)) (y (ix3 b s o)) := by pointwise [Layer.glu]
theorem glu_rows {x y : FVec Ideal ⟨3, ![2, 384, n]⟩ .f32} {f g : Fin 768 → Fin n → EReal} (hx : Rows x f) (hy : Rows y g) :
    Rows (mulf (mulf x (logistic x)) y) fun r o => Layer.glu (f r o) (g r o) := fun b s o => by rw [glu_at, hx b s o, hy b s o]

/-! The attention, on arrays of four axes: batch entry, token, head, coordinate. -/

/-- Column `d` of head `h`. -/
def col (h : Fin 16) (d : Fin 128) : Fin 2048 := ⟨128 * h + d, by omega⟩
/-- The array `w` holds the rows `f`, each row split into its heads. -/
def Heads (w : S2x384x16x128.Idx → EReal) (f : Fin 768 → Fin 16 → Fin 128 → EReal) : Prop :=
  ∀ b s h d, w (ix4 b s h d) = f (Layer.row b s) h d
theorem split_at (w : FVec Ideal S2x384x2048 .f32) (b : Fin 2) (s : Fin 384) (h : Fin 16) (d : Fin 128) :
    shapeCast S2x384x16x128 w shapeCasts_S2x384x2048_S2x384x16x128 (ix4 b s h d) = w (ix3 b s (col h d)) := by
  pointwise
  exact congrArg (fun o => w (ix3 b s o)) (Fin.ext (by simp only [col]; omega))
theorem heads {w : FVec Ideal S2x384x2048 .f32} {f : Fin 768 → Fin 2048 → EReal} (hw : Rows w f) :
    Heads (shapeCast S2x384x16x128 w shapeCasts_S2x384x2048_S2x384x16x128) fun r h d => f r (col h d) :=
  fun b s h d => (split_at w b s h d).trans (hw b s _)

/-- The rotary encoding of every head. -/
def rot (v : FVec Ideal S2x384x16x128 .f32) (c s : FVec Ideal S2x384x1x128 .f32) : FVec Ideal S2x384x16x128 .bf16 :=
  truncf .bf16 (addf (mulf v (broadcastTo S2x384x16x128 c broadcasts_S2x384x1x128_S2x384x16x128))
    (mulf (concatenate S2x384x16x128 3
      [⟨S2x384x16x64, subf (broadcast S2x384x16x64 (Scalar.ofBits .f32 0x00000000#32))
        (extractStridedSlice S2x384x16x64 ![0, 0, 0, 64] v slices_S2x384x16x128_o0_0_0_64_S2x384x16x64)⟩,
       ⟨S2x384x16x64, extractStridedSlice S2x384x16x64 ![0, 0, 0, 0] v slices_S2x384x16x128_o0_0_0_0_S2x384x16x64⟩]
      concatenates_S2x384x16x64_S2x384x16x64_S2x384x16x128_d3) (broadcastTo S2x384x16x128 s broadcasts_S2x384x1x128_S2x384x16x128))) bitsLt_bf16_f32
theorem rot_at (v : FVec Ideal S2x384x16x128 .f32) (c s : FVec Ideal S2x384x1x128 .f32) (b : Fin 2) (q : Fin 384) (h : Fin 16) (d : Fin 128) :
    rot v c s (ix4 b q h d) = Layer.rope (fun d => v (ix4 b q h d)) (fun d => c (ix4 b q 0 d)) (fun d => s (ix4 b q 0 d)) d := by
  pointwise [rot, Layer.rope, Layer.rot]
  simp only [zero_sub, Nat.add_comm 64]

/-- The masked scores of every head. -/
def scores (q k : FVec Ideal S2x384x16x128 .bf16) : FVec Ideal S2x16x384x384 .f32 :=
  select (cmpi .sle (iota .tc S2x16x384x384 32 [3] iota_S2x16x384x384_d3_w32) (iota .tc S2x16x384x384 32 [2] iota_S2x16x384x384_d2_w32))
    (mulf (matmul dot_S2x384x16x128_S2x384x16x128_S2x16x384x384_3_3_1_1_02_02 none q k (constant S2x16x384x384 .f32 0x00000000#32))
      (broadcast S2x16x384x384 (Scalar.ofBits .f32 0x3DB504F3#32))) (broadcast S2x16x384x384 (Scalar.ofBits .f32 0xFF800000#32))
theorem mask_at (b : Fin 2) (h : Fin 16) (i j : Fin 384) :
    cmpi .sle (iota .tc S2x16x384x384 32 [3] iota_S2x16x384x384_d3_w32) (iota .tc S2x16x384x384 32 [2] iota_S2x16x384x384_d2_w32) (ix4 b h i j)
      = BitVec.ofBool (decide ((j : ℕ) ≤ i)) := by
  pointwise
  exact WordCmp.cmpi_sle_ofNat (by omega) (by omega)
theorem scores_at (q k : FVec Ideal S2x384x16x128 .bf16) (b : Fin 2) (h : Fin 16) (i j : Fin 384) :
    scores q k (ix4 b h i j) = Layer.score (fun i d => q (ix4 b i h d)) (fun i d => k (ix4 b i h d)) i j := by
  unfold scores Layer.score
  rw [show ∀ (m : IVec S2x16x384x384 1) (x y : FVec Ideal S2x16x384x384 .f32) (i), select m x y i = Scalar.select (m i) (x i) (y i) from
    fun _ _ _ _ => rfl, mask_at]
  pointwise

/-- Each row's largest score. -/
def rowMax (s : FVec Ideal S2x16x384x384 .f32) : FVec Ideal S2x16x384 .f32 :=
  multiReduction .maximumf [3] S2x16x384 s 0xFF800000#32 reduces_S2x16x384x384_S2x16x384 (.inl rfl) rfl
theorem rowMax_at (s : FVec Ideal S2x16x384x384 .f32) (b : Fin 2) (h : Fin 16) (i : Fin 384) :
    rowMax s (ix3 b h i) = Finset.univ.fold max (Ideal.ofBits .f32 0xFF800000#32) fun j => s (ix4 b h i j) := by
  pointwise [rowMax]
/-- The same, taken at least negative infinity. -/
def peaks (s : FVec Ideal S2x16x384x384 .f32) : FVec Ideal S2x16x384 .f32 :=
  maximumf (broadcast S2x16x384 (Scalar.ofBits .f32 0xFF800000#32)) (rowMax s)
theorem floor_at (x : FVec Ideal S2x16x384 .f32) (i) :
    maximumf (broadcast S2x16x384 (Scalar.ofBits .f32 0xFF800000#32)) x i = max (Ideal.ofBits .f32 0xFF800000#32) (x i) := rfl
theorem peaks_at (s : FVec Ideal S2x16x384x384 .f32) (b : Fin 2) (h : Fin 16) (i : Fin 384) :
    peaks s (ix3 b h i) = Finset.univ.fold max (Ideal.ofBits .f32 0xFF800000#32) fun j => s (ix4 b h i j) :=
  (floor_at (rowMax s) (ix3 b h i)).trans (by rw [rowMax_at, Layer.lit_bot, max_eq_right bot_le])
/-- The exponentials of the scores, `p` taken off each row. -/
def expsOf (s : FVec Ideal S2x16x384x384 .f32) (p : FVec Ideal S2x16x384 .f32) : FVec Ideal S2x16x384x384 .f32 :=
  exp (subf s (broadcastTo S2x16x384x384 (shapeCast S2x16x384x1 p shapeCasts_S2x16x384_S2x16x384x1)
    broadcasts_S2x16x384x1_S2x16x384x384))
theorem expsOf_at (s : FVec Ideal S2x16x384x384 .f32) (p : FVec Ideal S2x16x384 .f32) (b : Fin 2) (h : Fin 16) (i j : Fin 384) :
    expsOf s p (ix4 b h i j) = Ideal.exp (s (ix4 b h i j) - p (ix3 b h i)) := by
  pointwise [expsOf]
/-- The exponentials of the scores, each row's largest taken off. -/
def exps (s : FVec Ideal S2x16x384x384 .f32) : FVec Ideal S2x16x384x384 .f32 := expsOf s (peaks s)
theorem exps_at (s : FVec Ideal S2x16x384x384 .f32) (b : Fin 2) (h : Fin 16) (i j : Fin 384) :
    exps s (ix4 b h i j) = Layer.expw (fun j => s (ix4 b h i j)) j :=
  (expsOf_at s _ b h i j).trans (by rw [peaks_at]; rfl)

/-- The values of every head weighted by the normalised exponentials, the heads of a row side by side. -/
def mix (v : FVec Ideal S2x384x16x128 .bf16) (e : FVec Ideal S2x16x384x384 .f32) : FVec Ideal S2x384x2048 .f32 :=
  shapeCast S2x384x2048 (transpose S2x384x16x128 [0, 3, 1, 2]
    (matmul dot_S2x384x16x128_S2x16x384x384_S2x16x128x384_1_3_3_2_02_01 none v (truncf .bf16 (divf e (broadcastTo S2x16x384x384
      (shapeCast S2x16x384x1 (multiReduction .add [3] S2x16x384 e 0x00000000#32 reduces_S2x16x384x384_S2x16x384 (.inl rfl) rfl)
        shapeCasts_S2x16x384_S2x16x384x1) broadcasts_S2x16x384x1_S2x16x384x384)) bitsLt_bf16_f32) (constant S2x16x128x384 .f32 0x00000000#32))
    transposes_S2x16x128x384_p0_3_1_2_S2x384x16x128) shapeCasts_S2x384x16x128_S2x384x2048
theorem mix_at (v : FVec Ideal S2x384x16x128 .bf16) (e : FVec Ideal S2x16x384x384 .f32) (b : Fin 2) (i : Fin 384) (o : Fin 2048) :
    mix v e (ix3 b i o) = ∑ j, Ideal.div (e (ix4 b ⟨o / 128, by omega⟩ i j)) (∑ x, e (ix4 b ⟨o / 128, by omega⟩ i x))
      * v (ix4 b j ⟨o / 128, by omega⟩ ⟨o % 128, Nat.mod_lt _ (by decide)⟩) := by
  pointwise [mix]
  exact Finset.sum_congr rfl fun j _ => mul_comm _ _

/-- The attention of every head, from the rows of its queries, keys and values. -/
theorem attn_rows {q k : FVec Ideal S2x384x16x128 .bf16} {v : FVec Ideal S2x384x16x128 .bf16} {e : Fin 768 → (Fin 128 → EReal) → Fin 128 → EReal}
    {Q K W : Fin 768 → Fin 2048 → EReal} (hq : Heads q fun r h => e r fun d => Q r (col h d)) (hk : Heads k fun r h => e r fun d => K r (col h d))
    (hv : Heads v fun r h d => W r (col h d)) : Rows (mix v (exps (scores q k))) (Layer.attnOf e Q K W) := fun b i o => by
  rw [mix_at]
  simp only [exps_at, scores_at]
  refine (Layer.attn_congr (fun i d => hq b i _ d) (fun i d => hk b i _ d) (fun i d => hv b i _ d) rfl rfl :
    Layer.attn (fun i d => q (ix4 b i ⟨o / 128, by omega⟩ d)) (fun i d => k (ix4 b i ⟨o / 128, by omega⟩ d))
      (fun i d => v (ix4 b i ⟨o / 128, by omega⟩ d)) i ⟨o % 128, Nat.mod_lt _ (by decide)⟩ = _).trans ?_
  have hr : ∀ j, Layer.rowOf (Layer.row b i) j = Layer.row b j := fun j => by
    apply Fin.ext; simp only [Layer.rowOf, Layer.row]; omega
  have hi : (⟨(Layer.row b i : ℕ) % 384, Nat.mod_lt _ (by decide)⟩ : Fin 384) = i := by
    apply Fin.ext; simp only [Layer.row]; omega
  unfold Layer.attnOf
  simp only [hr, hi]
  rfl

end Cert.ReferenceIdeal.Row
-- ==== Proof.Ref.Pay.lean ====
module
public import proofs.«01_k».proof.Proof.Ref.Row
@[expose] public section
set_option maxRecDepth 16384
noncomputable section
open Idealize.ShloMosaic Idealize.ShloMosaic.TcCoe Idealize.SL.Sem

/-! The printed values of the reference's body, each as the step of `Row` it is. -/
namespace Cert.ReferenceIdeal.Row
open Cert.ReferenceIdeal Cert.ReferenceIdeal.Gen

/-- The rows whose threshold is below the least normal number. -/
def low (t : FVec Ideal S2x384x1 .f32) : IVec S2x384x1 1 := cmpf .olt t (broadcast S2x384x1 (Scalar.ofBits .f32 0x00800000#32))
/-- The projections to 2048, 7168 and 2304 columns: codes `c` with their scales `s`, weights `w` with theirs. -/
def projA (c : FVec Ideal S2x384x7168 .fp8e4m3) (s : FVec Ideal S2x384x1 .f32) (w : FVec Ideal S7168x2048 .fp8e4m3) (ws : FVec Ideal S2048 .f32) :
    FVec Ideal S2x384x2048 .f32 :=
  scaled (matmul dot_S2x384x7168_S7168x2048_S2x384x2048_2_0_01_1_n_n none c w (constant S2x384x2048 .f32 0x00000000#32))
    (broadcastTo S2x384x2048 (shapeCast S1x1x2048 ws shapeCasts_S2048_S1x1x2048) broadcasts_S1x1x2048_S2x384x2048) s broadcasts_S2x384x1_S2x384x2048
def projO (c : FVec Ideal S2x384x2048 .fp8e4m3) (s : FVec Ideal S2x384x1 .f32) (w : FVec Ideal S2048x7168 .fp8e4m3) (ws : FVec Ideal S7168 .f32) :
    FVec Ideal S2x384x7168 .f32 :=
  scaled (matmul dot_S2x384x2048_S2048x7168_S2x384x7168_2_0_01_1_n_n none c w (constant S2x384x7168 .f32 0x00000000#32))
    (broadcastTo S2x384x7168 (shapeCast S1x1x7168 ws shapeCasts_S7168_S1x1x7168) broadcasts_S1x1x7168_S2x384x7168) s broadcasts_S2x384x1_S2x384x7168
def projU (c : FVec Ideal S2x384x7168 .fp8e4m3) (s : FVec Ideal S2x384x1 .f32) (w : FVec Ideal S7168x2304 .fp8e4m3) (ws : FVec Ideal S2304 .f32) :
    FVec Ideal S2x384x2304 .f32 :=
  scaled (matmul dot_S2x384x7168_S7168x2304_S2x384x2304_2_0_01_1_n_n none c w (constant S2x384x2304 .f32 0x00000000#32))
    (broadcastTo S2x384x2304 (shapeCast S1x1x2304 ws shapeCasts_S2304_S1x1x2304) broadcasts_S1x1x2304_S2x384x2304) s broadcasts_S2x384x1_S2x384x2304
def projD (c : FVec Ideal S2x384x2304 .fp8e4m3) (s : FVec Ideal S2x384x1 .f32) (w : FVec Ideal S2304x7168 .fp8e4m3) (ws : FVec Ideal S7168 .f32) :
    FVec Ideal S2x384x7168 .f32 :=
  scaled (matmul dot_S2x384x2304_S2304x7168_S2x384x7168_2_0_01_1_n_n none c w (constant S2x384x7168 .f32 0x00000000#32))
    (broadcastTo S2x384x7168 (shapeCast S1x1x7168 ws shapeCasts_S7168_S1x1x7168) broadcasts_S1x1x7168_S2x384x7168) s broadcasts_S2x384x1_S2x384x7168

theorem projA_rows {c s} {f : Fin 768 → Fin 7168 → EReal} (hc : Rows c fun r => Layer.qCode (f r)) (hs : Col s fun r => Layer.qS (f r)) (w ws) :
    Rows (projA c s w ws) fun r => Layer.proj (f r) (fun k o => w (ix2 k o)) fun o => ws (ix1 o) := scaled_rows (dotA hc w) hs (spreadA ws) _
theorem projO_rows {c s} {f : Fin 768 → Fin 2048 → EReal} (hc : Rows c fun r => Layer.qCode (f r)) (hs : Col s fun r => Layer.qS (f r)) (w ws) :
    Rows (projO c s w ws) fun r => Layer.proj (f r) (fun k o => w (ix2 k o)) fun o => ws (ix1 o) := scaled_rows (dotO hc w) hs (spreadO ws) _
theorem projU_rows {c s} {f : Fin 768 → Fin 7168 → EReal} (hc : Rows c fun r => Layer.qCode (f r)) (hs : Col s fun r => Layer.qS (f r)) (w ws) :
    Rows (projU c s w ws) fun r => Layer.proj (f r) (fun k o => w (ix2 k o)) fun o => ws (ix1 o) := scaled_rows (dotU hc w) hs (spreadU ws) _
theorem projD_rows {c s} {f : Fin 768 → Fin 2304 → EReal} (hc : Rows c fun r => Layer.qCode (f r)) (hs : Col s fun r => Layer.qS (f r)) (w ws) :
    Rows (projD c s w ws) fun r => Layer.proj (f r) (fun k o => w (ix2 k o)) fun o => ws (ix1 o) := scaled_rows (dotD hc w) hs (spreadO ws) _

/-- Every head's vectors of a projection to 2048 columns. -/
def split (w : FVec Ideal S2x384x2048 .f32) : FVec Ideal S2x384x16x128 .f32 := shapeCast S2x384x16x128 w shapeCasts_S2x384x2048_S2x384x16x128
/-- The narrower format leaves every element as it is. -/
theorem trunc3_rows {n : ℕ} {w : FVec Ideal ⟨3, ![2, 384, n]⟩ .f32} {f : Fin 768 → Fin n → EReal} (hw : Rows w f) :
    Rows (truncf .bf16 w bitsLt_bf16_f32) f := fun b s k => hw b s k
theorem trunc4_heads {w : FVec Ideal S2x384x16x128 .f32} {f : Fin 768 → Fin 16 → Fin 128 → EReal} (hw : Heads w f) :
    Heads (truncf .bf16 w bitsLt_bf16_f32) f := fun b s h d => hw b s h d
theorem rot_heads {v : FVec Ideal S2x384x16x128 .f32} {c s : FVec Ideal S2x384x1x128 .f32} {Q : Fin 768 → Fin 2048 → EReal}
    {C S : Fin 768 → Fin 128 → EReal} (hv : Heads v fun r h d => Q r (col h d)) (hc : ∀ b q d, c (ix4 b q 0 d) = C (Layer.row b q) d)
    (hs : ∀ b q d, s (ix4 b q 0 d) = S (Layer.row b q) d) :
    Heads (rot v c s) fun r h => (fun r v => Layer.rope v (C r) (S r)) r fun d => Q r (col h d) := fun b q h d => by
  rw [rot_at, funext (hv b q h), funext (hc b q), funext (hs b q)]

/-! The printed values. -/

theorem e2 (v) : k0_pay2 (F := Ideal) v = v := by funext i; idx_vars i; pointwise [k0_pay2]
theorem e3 (v) : k0_pay3 (F := Ideal) v = v := by funext i; idx_vars i; pointwise [k0_pay3]
theorem e4 (v0 v6) : k0_pay4 (F := Ideal) v0 v6 = norm (k0_pay1 v0) v6 := rfl
theorem e5 (v0 v6) : k0_pay5 (F := Ideal) v0 v6 = thr (k0_pay4 v0 v6) reduces_S2x384x7168_S2x384 := rfl
theorem e6 (v0 v6) : k0_pay6 (F := Ideal) v0 v6 = above (k0_pay5 v0 v6) := rfl
theorem e7 (v0 v6) : k0_pay7 (F := Ideal) v0 v6 = low (k0_pay5 v0 v6) := rfl
theorem e8 (t a) : k0_pay8 (F := Ideal) t a (low t) = scale t a := rfl
theorem e9 (w t a) : k0_pay9 (F := Ideal) w t a = code w (inv t a) broadcasts_S2x384x1_S2x384x7168 := rfl
theorem e10 (w t a l v ws) : k0_pay10 (F := Ideal) w t a l v ws = split (projA (k0_pay9 w t a) (k0_pay8 t a l) v ws) := rfl
theorem e11 (s c w ws) : k0_pay11 (F := Ideal) s c w ws = truncf .bf16 (split (projA c s w ws)) bitsLt_bf16_f32 := rfl
theorem e12 (x y s c q w ws) : k0_pay12 (F := Ideal) x y s c q w ws = scores (rot q x y) (rot (split (projA c s w ws)) x y) := rfl
theorem e13 (v p) : k0_pay13 (F := Ideal) v p = mix v (exps p) := rfl
theorem e14 (v p) : k0_pay14 (F := Ideal) v p = thr (k0_pay13 v p) reduces_S2x384x2048_S2x384 := rfl
theorem e15 (v p) : k0_pay15 (F := Ideal) v p = above (k0_pay14 v p) := rfl
theorem e16 (v p) : k0_pay16 (F := Ideal) v p = scale (k0_pay14 v p) (k0_pay15 v p) := rfl
theorem e17 (v p) : k0_pay17 (F := Ideal) v p = low (k0_pay14 v p) := rfl
/-- One over each row's power of two. -/
def recip (a : FVec Ideal S2x384x1 .f32) : FVec Ideal S2x384x1 .f32 := divf (broadcast S2x384x1 (Scalar.ofBits .f32 0x3F800000#32)) a
theorem e18 (v p) : k0_pay18 (F := Ideal) v p = recip (k0_pay15 v p) := rfl
theorem e20 (w t a) : k0_pay20 (F := Ideal) w t (low t) (recip a) k0_pay19 = code w (inv t a) broadcasts_S2x384x1_S2x384x2048 := rfl
theorem e21 (x w t s l a o v ws) : k0_pay21 (F := Ideal) x w t s l a o v ws = addf x (projO (k0_pay20 w t l a o) s v ws) := rfl
theorem e22 (x w t s l a o v ws g) : k0_pay22 (F := Ideal) x w t s l a o v ws g = norm (k0_pay21 x w t s l a o v ws) g := rfl
theorem e23 (x) : k0_pay23 (F := Ideal) x = thr x reduces_S2x384x7168_S2x384 := rfl
theorem e24 (x) : k0_pay24 (F := Ideal) x = above (k0_pay23 x) := rfl
theorem e25 (x) : k0_pay25 (F := Ideal) x = scale (k0_pay23 x) (k0_pay24 x) := rfl
theorem e26 (x) : k0_pay26 (F := Ideal) x = inv (k0_pay23 x) (k0_pay24 x) := rfl
theorem e27 (x i) : k0_pay27 (F := Ideal) x i = code x i broadcasts_S2x384x1_S2x384x7168 := rfl
theorem e28 (x s i wg sg wu su) : k0_pay28 (F := Ideal) x s i wg sg wu su
    = mulf (mulf (projU (k0_pay27 x i) s wg sg) (logistic (projU (k0_pay27 x i) s wg sg))) (projU (k0_pay27 x i) s wu su) := rfl
theorem e29 (x s i wg sg wu su) : k0_pay29 (F := Ideal) x s i wg sg wu su = thr (k0_pay28 x s i wg sg wu su) reduces_S2x384x2304_S2x384 := rfl
theorem e30 (x s i wg sg wu su) : k0_pay30 (F := Ideal) x s i wg sg wu su = above (k0_pay29 x s i wg sg wu su) := rfl
theorem e31 (x s i wg sg wu su) : k0_pay31 (F := Ideal) x s i wg sg wu su = low (k0_pay29 x s i wg sg wu su) := rfl
theorem e32 (t a) : k0_pay32 (F := Ideal) t a (low t) = scale t a := rfl
theorem e33 (w t a) : k0_pay33 (F := Ideal) w t a = code w (inv t a) broadcasts_S2x384x1_S2x384x2304 := rfl
theorem e34 (x w t a l v ws) : k0_pay34 (F := Ideal) x w t a l v ws
    = truncf .bf16 (addf x (projD (k0_pay33 w t a) (k0_pay32 t a l) v ws)) bitsLt_bf16_f32 := rfl

end Cert.ReferenceIdeal.Row
-- ==== Proof.Ref.Value.lean ====
module
public import proofs.«01_k».proof.Proof.Ref.Frame
public import proofs.«01_k».proof.Proof.Ref.Pay
public import Idealize.ShloMosaic.Lib.Pipeline.ValueKit
@[expose] public section
set_option maxRecDepth 16384
noncomputable section
open Idealize.ShloMosaic Idealize.ShloMosaic.TcCoe Idealize.SL.Sem

/-! The reference's body on whole arrays: its nine results as the layer's functions of its inputs. -/
namespace Cert.ReferenceIdeal.Row
open Cert.ReferenceIdeal Cert.ReferenceIdeal.Gen

/-- The body's inputs: the rows, the tables, the weights and their scales, in the order of its windows. -/
structure Blk where
  x0 : Vec Ideal S2x384x7168 .bf16
  x1 : Vec Ideal S2x384x1x128 .f32
  x2 : Vec Ideal S2x384x1x128 .f32
  x3 : Vec Ideal S7168 .bf16
  x4 : Vec Ideal S7168x2048 .fp8e4m3
  x5 : Vec Ideal S2048 .f32
  x6 : Vec Ideal S7168x2048 .fp8e4m3
  x7 : Vec Ideal S2048 .f32
  x8 : Vec Ideal S7168x2048 .fp8e4m3
  x9 : Vec Ideal S2048 .f32
  x10 : Vec Ideal S2048x7168 .fp8e4m3
  x11 : Vec Ideal S7168 .f32
  x12 : Vec Ideal S7168 .bf16
  x13 : Vec Ideal S7168x2304 .fp8e4m3
  x14 : Vec Ideal S2304 .f32
  x15 : Vec Ideal S7168x2304 .fp8e4m3
  x16 : Vec Ideal S2304 .f32
  x17 : Vec Ideal S2304x7168 .fp8e4m3
  x18 : Vec Ideal S7168 .f32

namespace Blk
variable (B : Blk)

/-- A value of the body at these inputs. -/
abbrev ap {α : Type} (f : Vec Ideal S2x384x7168 .bf16 → Vec Ideal S2x384x1x128 .f32 → Vec Ideal S2x384x1x128 .f32 → Vec Ideal S7168 .bf16 → Vec Ideal S7168x2048 .fp8e4m3 → Vec Ideal S2048 .f32 → Vec Ideal S7168x2048 .fp8e4m3 → Vec Ideal S2048 .f32 → Vec Ideal S7168x2048 .fp8e4m3 → Vec Ideal S2048 .f32 → Vec Ideal S2048x7168 .fp8e4m3 → Vec Ideal S7168 .f32 → Vec Ideal S7168 .bf16 → Vec Ideal S7168x2304 .fp8e4m3 → Vec Ideal S2304 .f32 → Vec Ideal S7168x2304 .fp8e4m3 → Vec Ideal S2304 .f32 → Vec Ideal S2304x7168 .fp8e4m3 → Vec Ideal S7168 .f32 → α) : α := f B.x0 B.x1 B.x2 B.x3 B.x4 B.x5 B.x6 B.x7 B.x8 B.x9 B.x10 B.x11 B.x12 B.x13 B.x14 B.x15 B.x16 B.x17 B.x18

/-- The layer's inputs these are. -/
def inp : Layer.In where
  x r k := B.x0 (ix3 (Layer.batch r) (Layer.token r) k)
  cos r d := B.x1 (ix4 (Layer.batch r) (Layer.token r) 0 d)
  sin r d := B.x2 (ix4 (Layer.batch r) (Layer.token r) 0 d)
  ga k := B.x3 (ix1 k)
  wq k o := B.x4 (ix2 k o)
  sq o := B.x5 (ix1 o)
  wk k o := B.x6 (ix2 k o)
  sk o := B.x7 (ix1 o)
  wv k o := B.x8 (ix2 k o)
  sv o := B.x9 (ix1 o)
  wo k o := B.x10 (ix2 k o)
  so o := B.x11 (ix1 o)
  gm k := B.x12 (ix1 k)
  wg k o := B.x13 (ix2 k o)
  sg o := B.x14 (ix1 o)
  wu k o := B.x15 (ix2 k o)
  su o := B.x16 (ix1 o)
  wd k o := B.x17 (ix2 k o)
  sd o := B.x18 (ix1 o)

/-! The body loads every array whole. -/

theorem ld0 (x : Vec Ideal S2x384x7168 .bf16) : View.ld x r0_0 = x := View.ld_unit_lit' _ x (by decide)
theorem ld1 (x : Vec Ideal S2x384x1x128 .f32) : View.ld x r0_1 = x := View.ld_unit_lit' _ x (by decide)
theorem ld2b (x : Vec Ideal S7168 .bf16) : View.ld x r0_2 = x := View.ld_unit_lit' _ x (by decide)
theorem ld2f (x : Vec Ideal S7168 .f32) : View.ld x r0_2 = x := View.ld_unit_lit' _ x (by decide)
theorem ld3 (x : Vec Ideal S7168x2048 .fp8e4m3) : View.ld x r0_3 = x := View.ld_unit_lit' _ x (by decide)
theorem ld4 (x : Vec Ideal S2048 .f32) : View.ld x r0_4 = x := View.ld_unit_lit' _ x (by decide)
theorem ld5 (x : Vec Ideal S2048x7168 .fp8e4m3) : View.ld x r0_5 = x := View.ld_unit_lit' _ x (by decide)
theorem ld6 (x : Vec Ideal S7168x2304 .fp8e4m3) : View.ld x r0_6 = x := View.ld_unit_lit' _ x (by decide)
theorem ld7 (x : Vec Ideal S2304 .f32) : View.ld x r0_7 = x := View.ld_unit_lit' _ x (by decide)
theorem ld8 (x : Vec Ideal S2304x7168 .fp8e4m3) : View.ld x r0_8 = x := View.ld_unit_lit' _ x (by decide)

/-! The input normalised and quantised. -/

theorem x_rows : Rows (B.ap k0_pay35) B.inp.x := fun b s k => by
  show View.ld B.x0 r0_0 (ix3 b s k) = B.x0 (ix3 (Layer.batch (Layer.row b s)) (Layer.token (Layer.row b s)) k)
  rw [ld0, Layer.batch_row, Layer.token_row]
theorem t36 : B.ap k0_pay36 = norm (B.ap k0_pay35) B.x3 := (e4 _ _).trans (congrArg (norm _) (ld2b _))
theorem xa_rows : Rows (B.ap k0_pay36) B.inp.xa := by rw [t36]; exact norm_rows B.x_rows _
theorem t37 : B.ap k0_pay37 = thr (B.ap k0_pay36) reduces_S2x384x7168_S2x384 := e5 _ _
theorem t38 : B.ap k0_pay38 = above (B.ap k0_pay37) := e6 _ _
theorem t39 : B.ap k0_pay39 = low (B.ap k0_pay37) := e7 _ _
theorem t40 : B.ap k0_pay40 = scale (B.ap k0_pay37) (B.ap k0_pay38) := (congrArg (k0_pay8 _ _) B.t39).trans (e8 _ _)
theorem t41 : B.ap k0_pay41 = code (B.ap k0_pay36) (inv (B.ap k0_pay37) (B.ap k0_pay38)) broadcasts_S2x384x1_S2x384x7168 := e9 _ _ _
theorem xa_thr : Col (B.ap k0_pay37) fun r => Layer.qT (B.inp.xa r) := by rw [t37]; exact thr_col B.xa_rows _
theorem xa_above : Col (B.ap k0_pay38) fun r => Layer.qAbove (Layer.qT (B.inp.xa r)) := by rw [t38]; exact above_col B.xa_thr
theorem xa_scale : Col (B.ap k0_pay40) fun r => Layer.qS (B.inp.xa r) := by rw [t40]; exact scale_col B.xa_thr B.xa_above
theorem xa_code : Rows (B.ap k0_pay41) fun r => Layer.qCode (B.inp.xa r) := by
  rw [t41]; exact code_rows B.xa_rows (inv_col B.xa_thr B.xa_above) _

/-! The attention. -/

theorem t42 : B.ap k0_pay42 = truncf .bf16 (split (projA (B.ap k0_pay41) (B.ap k0_pay40) B.x8 B.x9)) bitsLt_bf16_f32 := by
  show k0_pay11 _ _ (View.ld B.x8 r0_3) (View.ld B.x9 r0_4) = _
  rw [ld3, ld4]; exact e11 _ _ _ _
theorem t43 : B.ap k0_pay43 = scores (rot (split (projA (B.ap k0_pay41) (B.ap k0_pay40) B.x4 B.x5)) B.x1 B.x2)
    (rot (split (projA (B.ap k0_pay41) (B.ap k0_pay40) B.x6 B.x7)) B.x1 B.x2) := by
  show k0_pay12 (k0_pay2 (View.ld B.x1 r0_1)) (k0_pay3 (View.ld B.x2 r0_1)) _ _ (k0_pay10 _ _ _ _ (View.ld B.x4 r0_3) (View.ld B.x5 r0_4))
    (View.ld B.x6 r0_3) (View.ld B.x7 r0_4) = _
  rw [ld1, ld1, ld3, ld3, ld4, ld4, e2, e3, e10]; exact e12 _ _ _ _ _ _ _
theorem t44 : B.ap k0_pay44 = mix (B.ap k0_pay42) (exps (B.ap k0_pay43)) := e13 _ _
theorem cos_at (b q d) : B.x1 (ix4 b q 0 d) = B.inp.cos (Layer.row b q) d := by
  show _ = B.x1 (ix4 (Layer.batch _) (Layer.token _) 0 d); rw [Layer.batch_row, Layer.token_row]
theorem sin_at (b q d) : B.x2 (ix4 b q 0 d) = B.inp.sin (Layer.row b q) d := by
  show _ = B.x2 (ix4 (Layer.batch _) (Layer.token _) 0 d); rw [Layer.batch_row, Layer.token_row]
theorem q_rows : Rows (projA (B.ap k0_pay41) (B.ap k0_pay40) B.x4 B.x5) fun r => Layer.proj (B.inp.xa r) B.inp.wq B.inp.sq :=
  projA_rows B.xa_code B.xa_scale _ _
theorem k_rows : Rows (projA (B.ap k0_pay41) (B.ap k0_pay40) B.x6 B.x7) fun r => Layer.proj (B.inp.xa r) B.inp.wk B.inp.sk :=
  projA_rows B.xa_code B.xa_scale _ _
theorem v_rows : Rows (projA (B.ap k0_pay41) (B.ap k0_pay40) B.x8 B.x9) fun r => Layer.proj (B.inp.xa r) B.inp.wv B.inp.sv :=
  projA_rows B.xa_code B.xa_scale _ _
theorem ao_rows : Rows (B.ap k0_pay44) B.inp.ao := by
  rw [t44, t42, t43]
  exact attn_rows (e := fun r v => Layer.rope v (B.inp.cos r) (B.inp.sin r)) (Q := fun r => Layer.proj (B.inp.xa r) B.inp.wq B.inp.sq)
    (K := fun r => Layer.proj (B.inp.xa r) B.inp.wk B.inp.sk) (W := fun r => Layer.proj (B.inp.xa r) B.inp.wv B.inp.sv)
    (rot_heads (heads B.q_rows) B.cos_at B.sin_at) (rot_heads (heads B.k_rows) B.cos_at B.sin_at) (trunc4_heads (heads B.v_rows))
theorem t45 : B.ap k0_pay45 = thr (B.ap k0_pay44) reduces_S2x384x2048_S2x384 := e14 _ _
/-- The power of two of each row of the attention. -/
def p15 : FVec Ideal S2x384x1 .f32 := k0_pay15 (B.ap k0_pay42) (B.ap k0_pay43)
theorem t15 : B.p15 = above (B.ap k0_pay45) := e15 _ _
theorem t46 : B.ap k0_pay46 = scale (B.ap k0_pay45) B.p15 := e16 _ _
theorem t47 : B.ap k0_pay47 = low (B.ap k0_pay45) := e17 _ _
theorem t48 : B.ap k0_pay48 = recip B.p15 := e18 _ _
theorem t49 : B.ap k0_pay49 = k0_pay19 := rfl
/-- The attention's codes. -/
def p20 : FVec Ideal S2x384x2048 .fp8e4m3 := k0_pay20 (B.ap k0_pay44) (B.ap k0_pay45) (B.ap k0_pay47) (B.ap k0_pay48) (B.ap k0_pay49)
theorem t20 : B.p20 = code (B.ap k0_pay44) (inv (B.ap k0_pay45) B.p15) broadcasts_S2x384x1_S2x384x2048 := by
  unfold p20; rw [t47, t48, t49]; exact e20 _ _ _
theorem ao_thr : Col (B.ap k0_pay45) fun r => Layer.qT (B.inp.ao r) := by rw [t45]; exact thr_col B.ao_rows _
theorem ao_above : Col B.p15 fun r => Layer.qAbove (Layer.qT (B.inp.ao r)) := by rw [t15]; exact above_col B.ao_thr
theorem ao_scale : Col (B.ap k0_pay46) fun r => Layer.qS (B.inp.ao r) := by rw [t46]; exact scale_col B.ao_thr B.ao_above
theorem ao_code : Rows B.p20 fun r => Layer.qCode (B.inp.ao r) := by rw [t20]; exact code_rows B.ao_rows (inv_col B.ao_thr B.ao_above) _

/-! The residual stream, normalised and quantised. -/

/-- The residual stream after the attention. -/
def p21 : FVec Ideal S2x384x7168 .f32 := addf (B.ap k0_pay35) (projO B.p20 (B.ap k0_pay46) B.x10 B.x11)
theorem mid_rows : Rows B.p21 B.inp.mid := res_rows B.x_rows (projO_rows B.ao_code B.ao_scale _ _)
theorem t21 : k0_pay21 (B.ap k0_pay35) (B.ap k0_pay44) (B.ap k0_pay45) (B.ap k0_pay46) (B.ap k0_pay47) (B.ap k0_pay48) (B.ap k0_pay49)
    (View.ld B.x10 r0_5) (View.ld B.x11 r0_2) = B.p21 := by
  rw [ld5, ld2f]; exact e21 _ _ _ _ _ _ _ _ _
theorem t50 : B.ap k0_pay50 = norm B.p21 B.x12 := (e22 _ _ _ _ _ _ _ _ _ _).trans (congrArg₂ norm B.t21 (ld2b _))
theorem xm_rows : Rows (B.ap k0_pay50) B.inp.xm := by rw [t50]; exact norm_rows B.mid_rows _
/-- Each row's threshold and its power of two. -/
def p23 : FVec Ideal S2x384x1 .f32 := k0_pay23 (B.ap k0_pay50)
def p24 : FVec Ideal S2x384x1 .f32 := k0_pay24 (B.ap k0_pay50)
theorem xm_thr : Col B.p23 fun r => Layer.qT (B.inp.xm r) := by unfold p23; rw [e23]; exact thr_col B.xm_rows _
theorem xm_above : Col B.p24 fun r => Layer.qAbove (Layer.qT (B.inp.xm r)) := by unfold p24; rw [e24]; exact above_col B.xm_thr
theorem t51 : B.ap k0_pay51 = scale B.p23 B.p24 := e25 _
theorem t52 : B.ap k0_pay52 = inv B.p23 B.p24 := e26 _
theorem xm_scale : Col (B.ap k0_pay51) fun r => Layer.qS (B.inp.xm r) := by rw [t51]; exact scale_col B.xm_thr B.xm_above
/-- The codes. -/
def p27 : FVec Ideal S2x384x7168 .fp8e4m3 := k0_pay27 (B.ap k0_pay50) (B.ap k0_pay52)
theorem xm_code : Rows B.p27 fun r => Layer.qCode (B.inp.xm r) := by
  unfold p27; rw [e27, t52]; exact code_rows B.xm_rows (inv_col B.xm_thr B.xm_above) _

/-! The gated units and the layer's output. -/

theorem t53 : B.ap k0_pay53 = mulf (mulf (projU B.p27 (B.ap k0_pay51) B.x13 B.x14) (logistic (projU B.p27 (B.ap k0_pay51) B.x13 B.x14)))
    (projU B.p27 (B.ap k0_pay51) B.x15 B.x16) := by
  show k0_pay28 _ _ _ (View.ld B.x13 r0_6) (View.ld B.x14 r0_7) (View.ld B.x15 r0_6) (View.ld B.x16 r0_7) = _
  rw [ld6, ld6, ld7, ld7]; exact e28 _ _ _ _ _ _ _
theorem h_rows : Rows (B.ap k0_pay53) B.inp.h := by
  rw [t53]; exact glu_rows (projU_rows B.xm_code B.xm_scale _ _) (projU_rows B.xm_code B.xm_scale _ _)
theorem t54 : B.ap k0_pay54 = thr (B.ap k0_pay53) reduces_S2x384x2304_S2x384 := e29 _ _ _ _ _ _ _
theorem t55 : B.ap k0_pay55 = above (B.ap k0_pay54) := e30 _ _ _ _ _ _ _
theorem t56 : B.ap k0_pay56 = low (B.ap k0_pay54) := e31 _ _ _ _ _ _ _
theorem h_thr : Col (B.ap k0_pay54) fun r => Layer.qT (B.inp.h r) := by rw [t54]; exact thr_col B.h_rows _
theorem h_above : Col (B.ap k0_pay55) fun r => Layer.qAbove (Layer.qT (B.inp.h r)) := by rw [t55]; exact above_col B.h_thr
/-- The units' scales and codes. -/
def p32 : FVec Ideal S2x384x1 .f32 := k0_pay32 (B.ap k0_pay54) (B.ap k0_pay55) (B.ap k0_pay56)
def p33 : FVec Ideal S2x384x2304 .fp8e4m3 := k0_pay33 (B.ap k0_pay53) (B.ap k0_pay54) (B.ap k0_pay55)
theorem h_scale : Col B.p32 fun r => Layer.qS (B.inp.h r) := by unfold p32; rw [t56, e32]; exact scale_col B.h_thr B.h_above
theorem h_code : Rows B.p33 fun r => Layer.qCode (B.inp.h r) := by
  unfold p33; rw [e33]; exact code_rows B.h_rows (inv_col B.h_thr B.h_above) _
/-- The output. -/
def p34 : FVec Ideal S2x384x7168 .bf16 := k0_pay34 B.p21 (B.ap k0_pay53) (B.ap k0_pay54) (B.ap k0_pay55) (B.ap k0_pay56) B.x17 B.x18
theorem y_rows : Rows B.p34 B.inp.y := by
  unfold p34; rw [e34]
  exact trunc3_rows (res_rows B.mid_rows (projD_rows B.h_code B.h_scale _ _))

/-! What the body stores. -/

/-- Rows and columns read as whole arrays. -/
theorem of_rows {n : ℕ} {w : (⟨3, ![2, 384, n]⟩ : Shape).Idx → EReal} {f : Fin 768 → Fin n → EReal} (h : Rows w f) : w = Layer.T3 f := by
  funext i; rw [show w i = w (ix3 (i 0) (i 1) (i 2)) from congrArg w (ix3_eta i).symm]; exact h (i 0) (i 1) (i 2)
theorem of_col {w : FVec Ideal S2x384x1 .f32} {g : Fin 768 → EReal} (h : Col w g) : w = Layer.T3 fun r (_ : Fin 1) => g r := by
  funext i; idx_vars i; rw [Subsingleton.elim i2 0]; exact h i0 i1

end Blk
end Cert.ReferenceIdeal.Row
-- ==== Proof.Ref.Result.lean ====
module
public import proofs.«01_k».proof.Proof.Ref.Value
@[expose] public section
set_option maxRecDepth 16384
noncomputable section
open Idealize.ShloMosaic Idealize.ShloMosaic.TcCoe Idealize.SL.Sem
open Idealize.ShloMosaic.Pipeline (Dat)

/-! What the reference's call leaves in its nine results. -/
namespace Cert.ReferenceIdeal.Row
open Cert.ReferenceIdeal Cert.ReferenceIdeal.Gen
open Layer (T2 T3)

namespace Blk
variable (B : Blk)

/-! The body stores every result whole. -/

theorem st7168b (x : Vec Ideal S2x384x7168 .bf16) : View.canon [⟨r0_0, x⟩] = x := View.canon_cons_unit_lit' _ x _ (by decide)
theorem st7168f (x : Vec Ideal S2x384x7168 .fp8e4m3) : View.canon [⟨r0_0, x⟩] = x := View.canon_cons_unit_lit' _ x _ (by decide)
theorem st1f (x : Vec Ideal S2x384x1 .f32) : View.canon [⟨r0_9, x⟩] = x := View.canon_cons_unit_lit' _ x _ (by decide)
theorem st2048f (x : Vec Ideal S2x384x2048 .fp8e4m3) : View.canon [⟨r0_10, x⟩] = x := View.canon_cons_unit_lit' _ x _ (by decide)
theorem st2304f (x : Vec Ideal S2x384x2304 .fp8e4m3) : View.canon [⟨r0_11, x⟩] = x := View.canon_cons_unit_lit' _ x _ (by decide)
theorem p34_eq : k0_pay34 (k0_pay21 (B.ap k0_pay35) (B.ap k0_pay44) (B.ap k0_pay45) (B.ap k0_pay46) (B.ap k0_pay47) (B.ap k0_pay48) (B.ap k0_pay49)
    (View.ld B.x10 r0_5) (View.ld B.x11 r0_2)) (B.ap k0_pay53) (B.ap k0_pay54) (B.ap k0_pay55) (B.ap k0_pay56) (View.ld B.x17 r0_8) (View.ld B.x18 r0_2)
    = B.p34 := by
  rw [t21, ld8, ld2f]; rfl

theorem y_out : B.ap out0_19 = T3 (B.inp.y) := ((st7168b _).trans B.p34_eq).trans (of_rows B.y_rows)
theorem xac_out : B.ap out0_20 = T3 (fun r => Layer.qCode (B.inp.xa r)) := (st7168f _).trans (of_rows B.xa_code)
theorem xas_out : B.ap out0_21 = T3 (fun r (_ : Fin 1) => Layer.qS (B.inp.xa r)) := (st1f _).trans (of_col B.xa_scale)
theorem aoc_out : B.ap out0_22 = T3 (fun r => Layer.qCode (B.inp.ao r)) := (st2048f _).trans (of_rows B.ao_code)
theorem aos_out : B.ap out0_23 = T3 (fun r (_ : Fin 1) => Layer.qS (B.inp.ao r)) := (st1f _).trans (of_col B.ao_scale)
theorem xmc_out : B.ap out0_24 = T3 (fun r => Layer.qCode (B.inp.xm r)) := (st7168f _).trans (of_rows B.xm_code)
theorem xms_out : B.ap out0_25 = T3 (fun r (_ : Fin 1) => Layer.qS (B.inp.xm r)) := (st1f _).trans (of_col B.xm_scale)
theorem hc_out : B.ap out0_26 = T3 (fun r => Layer.qCode (B.inp.h r)) := (st2304f _).trans (of_rows B.h_code)
theorem hs_out : B.ap out0_27 = T3 (fun r (_ : Fin 1) => Layer.qS (B.inp.h r)) := (st1f _).trans (of_col B.h_scale)
end Blk

variable (m : (ℓ : Loc nD τ sig) → Buf (Elt Ideal) ℓ) (c : Dev nD)

/-- The body's inputs in the run from `m`. -/
abbrev blk : Blk := ⟨iblk m c 0 t0_0, iblk m c 1 t0_0, iblk m c 2 t0_0, iblk m c 3 t0_0, iblk m c 4 t0_0, iblk m c 5 t0_0, iblk m c 6 t0_0, iblk m c 7 t0_0, iblk m c 8 t0_0, iblk m c 9 t0_0, iblk m c 10 t0_0, iblk m c 11 t0_0, iblk m c 12 t0_0, iblk m c 13 t0_0, iblk m c 14 t0_0, iblk m c 15 t0_0, iblk m c 16 t0_0, iblk m c 17 t0_0, iblk m c 18 t0_0⟩

theorem y_end : (dats m 0 c).arrAt 19 cfg0.N = T3 ((blk m c).inp.y) := by
  have h := (blk m c).y_out
  dsimp only [Blk.ap] at h
  have e := after0_19 m c t0_0
  rw [h] at e
  refine (dats m 0 c).arrAt_eq_of_after_last 19 t0_0 (by decide +kernel) _ fun j => ?_
  blk_simp; exact congrFun e j
theorem xac_end : (dats m 0 c).arrAt 20 cfg0.N = T3 (fun r => Layer.qCode ((blk m c).inp.xa r)) := by
  have h := (blk m c).xac_out
  dsimp only [Blk.ap] at h
  have e := after0_20 m c t0_0
  rw [h] at e
  refine (dats m 0 c).arrAt_eq_of_after_last 20 t0_0 (by decide +kernel) _ fun j => ?_
  blk_simp; exact congrFun e j
theorem xas_end : (dats m 0 c).arrAt 21 cfg0.N = T3 (fun r (_ : Fin 1) => Layer.qS ((blk m c).inp.xa r)) := by
  have h := (blk m c).xas_out
  dsimp only [Blk.ap] at h
  have e := after0_21 m c t0_0
  rw [h] at e
  refine (dats m 0 c).arrAt_eq_of_after_last 21 t0_0 (by decide +kernel) _ fun j => ?_
  blk_simp; exact congrFun e j
theorem aoc_end : (dats m 0 c).arrAt 22 cfg0.N = T3 (fun r => Layer.qCode ((blk m c).inp.ao r)) := by
  have h := (blk m c).aoc_out
  dsimp only [Blk.ap] at h
  have e := after0_22 m c t0_0
  rw [h] at e
  refine (dats m 0 c).arrAt_eq_of_after_last 22 t0_0 (by decide +kernel) _ fun j => ?_
  blk_simp; exact congrFun e j
theorem aos_end : (dats m 0 c).arrAt 23 cfg0.N = T3 (fun r (_ : Fin 1) => Layer.qS ((blk m c).inp.ao r)) := by
  have h := (blk m c).aos_out
  dsimp only [Blk.ap] at h
  have e := after0_23 m c t0_0
  rw [h] at e
  refine (dats m 0 c).arrAt_eq_of_after_last 23 t0_0 (by decide +kernel) _ fun j => ?_
  blk_simp; exact congrFun e j
theorem xmc_end : (dats m 0 c).arrAt 24 cfg0.N = T3 (fun r => Layer.qCode ((blk m c).inp.xm r)) := by
  have h := (blk m c).xmc_out
  dsimp only [Blk.ap] at h
  have e := after0_24 m c t0_0
  rw [h] at e
  refine (dats m 0 c).arrAt_eq_of_after_last 24 t0_0 (by decide +kernel) _ fun j => ?_
  blk_simp; exact congrFun e j
theorem xms_end : (dats m 0 c).arrAt 25 cfg0.N = T3 (fun r (_ : Fin 1) => Layer.qS ((blk m c).inp.xm r)) := by
  have h := (blk m c).xms_out
  dsimp only [Blk.ap] at h
  have e := after0_25 m c t0_0
  rw [h] at e
  refine (dats m 0 c).arrAt_eq_of_after_last 25 t0_0 (by decide +kernel) _ fun j => ?_
  blk_simp; exact congrFun e j
theorem hc_end : (dats m 0 c).arrAt 26 cfg0.N = T3 (fun r => Layer.qCode ((blk m c).inp.h r)) := by
  have h := (blk m c).hc_out
  dsimp only [Blk.ap] at h
  have e := after0_26 m c t0_0
  rw [h] at e
  refine (dats m 0 c).arrAt_eq_of_after_last 26 t0_0 (by decide +kernel) _ fun j => ?_
  blk_simp; exact congrFun e j
theorem hs_end : (dats m 0 c).arrAt 27 cfg0.N = T3 (fun r (_ : Fin 1) => Layer.qS ((blk m c).inp.h r)) := by
  have h := (blk m c).hs_out
  dsimp only [Blk.ap] at h
  have e := after0_27 m c t0_0
  rw [h] at e
  refine (dats m 0 c).arrAt_eq_of_after_last 27 t0_0 (by decide +kernel) _ fun j => ?_
  blk_simp; exact congrFun e j

end Cert.ReferenceIdeal.Row
-- ==== Proof.Ref.Input.lean ====
module
public import proofs.«01_k».proof.Proof.Ref.Result
@[expose] public section
set_option maxRecDepth 16384
noncomputable section
open Idealize.ShloMosaic Idealize.ShloMosaic.TcCoe Idealize.SL.Sem

/-! What the reference's call reads: its arguments and the two tables computed from the positions. -/
namespace Cert.ReferenceIdeal.Row
open Cert.ReferenceIdeal Cert.ReferenceIdeal.Gen

variable (m : (ℓ : Loc nD τ sig) → Buf (Elt Ideal) ℓ) (c : Dev nD)

/-- The layer's inputs in the run from `m`. -/
def args : Layer.In := Layer.input (fun b s k => m ((c.tc : Thread nD τ).loc main_arg0) (ix3 b s k)) (fun b => m ((c.tc : Thread nD τ).loc main_arg1) (ix1 b))
  (fun k => m ((c.tc : Thread nD τ).loc main_arg2) (ix1 k))
  (fun k o => m ((c.tc : Thread nD τ).loc main_arg3) (ix2 k o))
  (fun k => m ((c.tc : Thread nD τ).loc main_arg4) (ix1 k))
  (fun k o => m ((c.tc : Thread nD τ).loc main_arg5) (ix2 k o))
  (fun k => m ((c.tc : Thread nD τ).loc main_arg6) (ix1 k))
  (fun k o => m ((c.tc : Thread nD τ).loc main_arg7) (ix2 k o))
  (fun k => m ((c.tc : Thread nD τ).loc main_arg8) (ix1 k))
  (fun k o => m ((c.tc : Thread nD τ).loc main_arg9) (ix2 k o))
  (fun k => m ((c.tc : Thread nD τ).loc main_arg10) (ix1 k))
  (fun k => m ((c.tc : Thread nD τ).loc main_arg11) (ix1 k))
  (fun k o => m ((c.tc : Thread nD τ).loc main_arg12) (ix2 k o))
  (fun k => m ((c.tc : Thread nD τ).loc main_arg13) (ix1 k))
  (fun k o => m ((c.tc : Thread nD τ).loc main_arg14) (ix2 k o))
  (fun k => m ((c.tc : Thread nD τ).loc main_arg15) (ix1 k))
  (fun k o => m ((c.tc : Thread nD τ).loc main_arg16) (ix2 k o))
  (fun k => m ((c.tc : Thread nD τ).loc main_arg17) (ix1 k))

/-! The tables. -/

theorem cos_table (b : Fin 2) (q : Fin 384) (d : Fin 128) : V m c main_v24 (ix4 b q 0 d)
    = Ideal.cos (Layer.angle (m ((c.tc : Thread nD τ).loc main_arg1) (ix1 b)) q (Layer.freq d)) := by
  unfold V; after_results; pointwise
  show _ = Ideal.cos (Layer.angle _ _ (Layer.freq d))
  unfold Layer.freq; split <;> rfl
theorem sin_table (b : Fin 2) (q : Fin 384) (d : Fin 128) : V m c main_v25 (ix4 b q 0 d)
    = Ideal.sin (Layer.angle (m ((c.tc : Thread nD τ).loc main_arg1) (ix1 b)) q (Layer.freq d)) := by
  unfold V; after_results; pointwise
  show _ = Ideal.sin (Layer.angle _ _ (Layer.freq d))
  unfold Layer.freq; split <;> rfl

/-! The single block of a window is its whole array. -/

theorem in0 : iblk m c 0 t0_0 = m ((c.tc : Thread nD τ).loc main_arg0) := (funext fun i => by blk_ext [iblk, (by decide +kernel : ∀ a, win0_0.index t0_0 a = 0)]).trans (V_main_arg0 m c)
theorem in1 : iblk m c 1 t0_0 = V m c main_v24 := funext fun i => by blk_ext [iblk, (by decide +kernel : ∀ a, win0_1.index t0_0 a = 0)]
theorem in2 : iblk m c 2 t0_0 = V m c main_v25 := funext fun i => by blk_ext [iblk, (by decide +kernel : ∀ a, win0_2.index t0_0 a = 0)]
theorem in3 : iblk m c 3 t0_0 = m ((c.tc : Thread nD τ).loc main_arg2) := (funext fun i => by blk_ext [iblk, (by decide +kernel : ∀ a, win0_3.index t0_0 a = 0)]).trans (V_main_arg2 m c)
theorem in4 : iblk m c 4 t0_0 = m ((c.tc : Thread nD τ).loc main_arg3) := (funext fun i => by blk_ext [iblk, (by decide +kernel : ∀ a, win0_4.index t0_0 a = 0)]).trans (V_main_arg3 m c)
theorem in5 : iblk m c 5 t0_0 = m ((c.tc : Thread nD τ).loc main_arg4) := (funext fun i => by blk_ext [iblk, (by decide +kernel : ∀ a, win0_5.index t0_0 a = 0)]).trans (V_main_arg4 m c)
theorem in6 : iblk m c 6 t0_0 = m ((c.tc : Thread nD τ).loc main_arg5) := (funext fun i => by blk_ext [iblk, (by decide +kernel : ∀ a, win0_6.index t0_0 a = 0)]).trans (V_main_arg5 m c)
theorem in7 : iblk m c 7 t0_0 = m ((c.tc : Thread nD τ).loc main_arg6) := (funext fun i => by blk_ext [iblk, (by decide +kernel : ∀ a, win0_7.index t0_0 a = 0)]).trans (V_main_arg6 m c)
theorem in8 : iblk m c 8 t0_0 = m ((c.tc : Thread nD τ).loc main_arg7) := (funext fun i => by blk_ext [iblk, (by decide +kernel : ∀ a, win0_8.index t0_0 a = 0)]).trans (V_main_arg7 m c)
theorem in9 : iblk m c 9 t0_0 = m ((c.tc : Thread nD τ).loc main_arg8) := (funext fun i => by blk_ext [iblk, (by decide +kernel : ∀ a, win0_9.index t0_0 a = 0)]).trans (V_main_arg8 m c)
theorem in10 : iblk m c 10 t0_0 = m ((c.tc : Thread nD τ).loc main_arg9) := (funext fun i => by blk_ext [iblk, (by decide +kernel : ∀ a, win0_10.index t0_0 a = 0)]).trans (V_main_arg9 m c)
theorem in11 : iblk m c 11 t0_0 = m ((c.tc : Thread nD τ).loc main_arg10) := (funext fun i => by blk_ext [iblk, (by decide +kernel : ∀ a, win0_11.index t0_0 a = 0)]).trans (V_main_arg10 m c)
theorem in12 : iblk m c 12 t0_0 = m ((c.tc : Thread nD τ).loc main_arg11) := (funext fun i => by blk_ext [iblk, (by decide +kernel : ∀ a, win0_12.index t0_0 a = 0)]).trans (V_main_arg11 m c)
theorem in13 : iblk m c 13 t0_0 = m ((c.tc : Thread nD τ).loc main_arg12) := (funext fun i => by blk_ext [iblk, (by decide +kernel : ∀ a, win0_13.index t0_0 a = 0)]).trans (V_main_arg12 m c)
theorem in14 : iblk m c 14 t0_0 = m ((c.tc : Thread nD τ).loc main_arg13) := (funext fun i => by blk_ext [iblk, (by decide +kernel : ∀ a, win0_14.index t0_0 a = 0)]).trans (V_main_arg13 m c)
theorem in15 : iblk m c 15 t0_0 = m ((c.tc : Thread nD τ).loc main_arg14) := (funext fun i => by blk_ext [iblk, (by decide +kernel : ∀ a, win0_15.index t0_0 a = 0)]).trans (V_main_arg14 m c)
theorem in16 : iblk m c 16 t0_0 = m ((c.tc : Thread nD τ).loc main_arg15) := (funext fun i => by blk_ext [iblk, (by decide +kernel : ∀ a, win0_16.index t0_0 a = 0)]).trans (V_main_arg15 m c)
theorem in17 : iblk m c 17 t0_0 = m ((c.tc : Thread nD τ).loc main_arg16) := (funext fun i => by blk_ext [iblk, (by decide +kernel : ∀ a, win0_17.index t0_0 a = 0)]).trans (V_main_arg16 m c)
theorem in18 : iblk m c 18 t0_0 = m ((c.tc : Thread nD τ).loc main_arg17) := (funext fun i => by blk_ext [iblk, (by decide +kernel : ∀ a, win0_18.index t0_0 a = 0)]).trans (V_main_arg17 m c)

/-- The body's inputs are the arguments and the two tables. -/
theorem blk_eq : blk m c = ⟨m ((c.tc : Thread nD τ).loc main_arg0), V m c main_v24, V m c main_v25,
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7),
    m ((c.tc : Thread nD τ).loc main_arg8),
    m ((c.tc : Thread nD τ).loc main_arg9),
    m ((c.tc : Thread nD τ).loc main_arg10),
    m ((c.tc : Thread nD τ).loc main_arg11),
    m ((c.tc : Thread nD τ).loc main_arg12),
    m ((c.tc : Thread nD τ).loc main_arg13),
    m ((c.tc : Thread nD τ).loc main_arg14),
    m ((c.tc : Thread nD τ).loc main_arg15),
    m ((c.tc : Thread nD τ).loc main_arg16),
    m ((c.tc : Thread nD τ).loc main_arg17)⟩ := by
  unfold blk
  rw [in0, in1, in2, in3, in4, in5, in6, in7, in8, in9, in10, in11, in12, in13, in14, in15, in16, in17, in18]

/-- So they are the layer's inputs. -/
theorem inp_eq : (blk m c).inp = args m c := by
  rw [blk_eq]
  unfold Blk.inp args Layer.input
  dsimp only
  rw [Layer.In.mk.injEq]
  exact ⟨rfl, funext fun r => funext fun d => cos_table m c _ _ d, funext fun r => funext fun d => sin_table m c _ _ d,
    rfl, rfl, rfl, rfl, rfl, rfl, rfl, rfl, rfl, rfl, rfl, rfl, rfl, rfl, rfl, rfl⟩

end Cert.ReferenceIdeal.Row
-- ==== Proof.Ref.Results.lean ====
module
public import proofs.«01_k».proof.Proof.Ref.Input
@[expose] public section
set_option maxRecDepth 16384
noncomputable section
open Idealize.ShloMosaic Idealize.ShloMosaic.TcCoe Idealize.SL.Sem

/-! What the reference leaves: the layer's nine results, and its arguments. -/
namespace Cert.ReferenceIdeal.Row
open Cert.ReferenceIdeal Cert.ReferenceIdeal.Gen
open Layer (T3)

variable (m : (ℓ : Loc nD τ sig) → Buf (Elt Ideal) ℓ) (ρ : Dev nD → PrngReg)

set_option maxHeartbeats 2000000 in
/-- Every fair run from `m` ends with the layer's results, its arguments as they were. -/
theorem results : θ_run defs (onTc (τ := τ) (main (F := Ideal))) ⟨m, fun _ => 0, ρ⟩ (fun r => ∀ c : Dev nD,
      r.2.mem ((c.tc : Thread nD τ).loc main_v26_0) = T3 (args m c).y
      ∧ r.2.mem ((c.tc : Thread nD τ).loc main_v26_1) = T3 (fun r => Layer.qCode ((args m c).xa r))
      ∧ r.2.mem ((c.tc : Thread nD τ).loc main_v26_2) = T3 (fun r (_ : Fin 1) => Layer.qS ((args m c).xa r))
      ∧ r.2.mem ((c.tc : Thread nD τ).loc main_v26_3) = T3 (fun r => Layer.qCode ((args m c).ao r))
      ∧ r.2.mem ((c.tc : Thread nD τ).loc main_v26_4) = T3 (fun r (_ : Fin 1) => Layer.qS ((args m c).ao r))
      ∧ r.2.mem ((c.tc : Thread nD τ).loc main_v26_5) = T3 (fun r => Layer.qCode ((args m c).xm r))
      ∧ r.2.mem ((c.tc : Thread nD τ).loc main_v26_6) = T3 (fun r (_ : Fin 1) => Layer.qS ((args m c).xm r))
      ∧ r.2.mem ((c.tc : Thread nD τ).loc main_v26_7) = T3 (fun r => Layer.qCode ((args m c).h r))
      ∧ r.2.mem ((c.tc : Thread nD τ).loc main_v26_8) = T3 (fun r (_ : Fin 1) => Layer.qS ((args m c).h r))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => by
    rw [← inp_eq m c]
    exact ⟨((h.1 c).1 19).trans (y_end m c),
      ((h.1 c).1 20).trans (xac_end m c),
      ((h.1 c).1 21).trans (xas_end m c),
      ((h.1 c).1 22).trans (aoc_end m c),
      ((h.1 c).1 23).trans (aos_end m c),
      ((h.1 c).1 24).trans (xmc_end m c),
      ((h.1 c).1 25).trans (xms_end m c),
      ((h.1 c).1 26).trans (hc_end m c),
      ((h.1 c).1 27).trans (hs_end m c),
      h.2 c⟩) (θ_run_and (run_main m ρ) (unchanged m ρ))

end Cert.ReferenceIdeal.Row
-- ==== Proof.Equal.lean ====
module
public import proofs.«01_k».proof.Defs
public import proofs.«01_k».proof.Proof.Call.Results
public import proofs.«01_k».proof.Proof.Ref.Results
@[expose] public section
set_option maxRecDepth 16384
noncomputable section
open Idealize.ShloMosaic Idealize.ShloMosaic.TcCoe Idealize.SL.Sem

/-! The kernel and the reference leave the same nine results. -/
namespace Cert.Proof
open Layer (T3)

/-- Memories that agree on the arguments give both programs the same inputs. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Row.args m' c = Cert.KernelIdeal.Call.inp m c := by
  obtain ⟨h0, h1, h2, h3, h4, h5, h6, h7, h8, h9, h10, h11, h12, h13, h14, h15, h16, h17⟩ := h
  unfold Cert.ReferenceIdeal.Row.args Cert.KernelIdeal.Call.inp
  rw [h0, h1, h2, h3, h4, h5, h6, h7, h8, h9, h10, h11, h12, h13, h14, h15, h16, h17]

set_option maxHeartbeats 2000000 in
theorem algebraic [hK : Cert.KernelIdeal.Facts] [hR : Cert.ReferenceIdeal.Facts] :
    Cert.algebraic_KernelIdeal_ReferenceIdeal := by
  intro m g m' g' _ ha
  let I := fun c => Cert.KernelIdeal.Call.inp m c
  refine ⟨fun c => T3 (I c).y,
    fun c => T3 (fun r => Layer.qCode ((I c).xa r)),
    fun c => T3 (fun r (_ : Fin 1) => Layer.qS ((I c).xa r)),
    fun c => T3 (fun r => Layer.qCode ((I c).ao r)),
    fun c => T3 (fun r (_ : Fin 1) => Layer.qS ((I c).ao r)),
    fun c => T3 (fun r => Layer.qCode ((I c).xm r)),
    fun c => T3 (fun r (_ : Fin 1) => Layer.qS ((I c).xm r)),
    fun c => T3 (fun r => Layer.qCode ((I c).h r)),
    fun c => T3 (fun r (_ : Fin 1) => Layer.qS ((I c).h r)), Cert.KernelIdeal.Call.results m g, ?_⟩
  have e : Cert.ReferenceIdeal.Row.args m' = fun c => I c := funext fun c => args_eq m m' c (ha c)
  have h := Cert.ReferenceIdeal.Row.results m' g'
  rw [e] at h
  exact h

end Cert.Proof
-- ==== Proof.lean ====
module

public import proofs.«01_k».proof.Defs
public import proofs.«01_k».proof.Proof.Gen.Kernel.Frame
public import proofs.«01_k».proof.Proof.Gen.KernelIdeal.Frame
public import proofs.«01_k».proof.Proof.Ref.Frame
public import proofs.«01_k».proof.Proof.Equal

@[expose] public section

theorem Cert.Proof.claim : Cert.Claim := ⟨Cert.Kernel.Gen.facts, Cert.KernelIdeal.Gen.facts, Cert.ReferenceIdeal.Gen.facts, fun m ρ _ => Cert.Kernel.Gen.frame m ρ, fun m ρ _ => Cert.KernelIdeal.Gen.frame m ρ, fun m ρ _ => Cert.ReferenceIdeal.Gen.frame m ρ, trivial, Cert.Proof.algebraic⟩
